-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x256 : Shape := ⟨2, ![1024, 256]⟩
abbrev S256x64 : Shape := ⟨2, ![256, 64]⟩
abbrev S1024x1 : Shape := ⟨2, ![1024, 1]⟩
abbrev S4x256x512 : Shape := ⟨3, ![4, 256, 512]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x256 .bf16) (main_arg1 : FVec F S256x64 .bf16) (main_arg2 : IVec S1024x1 32) (main_arg3 : FVec F S4x256x512 .bf16) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Pre_routed_ReferenceIdeal.lean ====
abbrev S1024x256 : Shape := ⟨2, ![1024, 256]⟩
abbrev S256x64 : Shape := ⟨2, ![256, 64]⟩
abbrev S1024x1 : Shape := ⟨2, ![1024, 1]⟩
abbrev S64x256x512 : Shape := ⟨3, ![64, 256, 512]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x256 .bf16) (main_arg1 : FVec F S256x64 .bf16) (main_arg2 : IVec S1024x1 32) (main_arg3 : FVec F S64x256x512 .bf16) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Kernel.lean ====
abbrev S1024x256 : Shape := ⟨2, ![1024, 256]⟩
abbrev S256x64 : Shape := ⟨2, ![256, 64]⟩
abbrev S1024x1 : Shape := ⟨2, ![1024, 1]⟩
abbrev S4x256x512 : Shape := ⟨3, ![4, 256, 512]⟩
abbrev S1024x512 : Shape := ⟨2, ![1024, 512]⟩
abbrev S768x512 : Shape := ⟨2, ![768, 512]⟩
abbrev S16 : Shape := ⟨1, ![16]⟩
abbrev S_ : Shape := ⟨0, ![]⟩
abbrev S1024x64 : Shape := ⟨2, ![1024, 64]⟩
abbrev S512x512 : Shape := ⟨2, ![512, 512]⟩
abbrev S512x64 : Shape := ⟨2, ![512, 64]⟩
abbrev S1x64 : Shape := ⟨2, ![1, 64]⟩
abbrev S1024 : Shape := ⟨1, ![1024]⟩
abbrev S1024x48 : Shape := ⟨2, ![1024, 48]⟩
abbrev S48x256 : Shape := ⟨2, ![48, 256]⟩
abbrev S1x256x512 : Shape := ⟨3, ![1, 256, 512]⟩
abbrev S256x512 : Shape := ⟨2, ![256, 512]⟩
abbrev S12x256 : Shape := ⟨2, ![12, 256]⟩
abbrev S12x512 : Shape := ⟨2, ![12, 512]⟩
abbrev S48x512 : Shape := ⟨2, ![48, 512]⟩
abbrev S1 : Shape := ⟨1, ![1]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S1024x256, .bf16⟩
  | .hbm, ⟨1, _⟩ => ⟨S256x64, .bf16⟩
  | .hbm, ⟨2, _⟩ => ⟨S1024x1, .i32⟩
  | .hbm, ⟨3, _⟩ => ⟨S4x256x512, .bf16⟩
  | .hbm, ⟨4, _⟩ => ⟨S1024x512, .bf16⟩
  | .local _ .vmem, ⟨0, _⟩ => ⟨S1024x256, .bf16⟩
  | .local _ .vmem, ⟨1, _⟩ => ⟨S256x64, .bf16⟩
  | .local _ .vmem, ⟨2, _⟩ => ⟨S1024x1, .i32⟩
  | .local _ .vmem, ⟨3, _⟩ => ⟨S4x256x512, .bf16⟩
  | .local _ .vmem, ⟨4, _⟩ => ⟨S1024x512, .bf16⟩
  | .local _ .vmem, ⟨5, _⟩ => ⟨S768x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_160 : BitVec 32 := 1#32
  let v269 : BitVec 32 := Scalar.addi v2 c1_i32_160
  let c16_i32_161 : BitVec 32 := 16#32
  let c0_i32_162 : BitVec 32 := 0#32
  let v270 : BitVec 1 := Scalar.cmpi .eq c16_i32_161 c0_i32_162
  let c1_i32_163 : BitVec 32 := 1#32
  let v271 : BitVec 32 := Scalar.select v270 c1_i32_163 c16_i32_161
  let v272 : BitVec 32 := Scalar.remsi v269 v271
  let c0_i32_165 : BitVec 32 := 0#32
  let v274 : BitVec 1 := Scalar.cmpi .slt v272 c0_i32_165
  let c0_i32_166 : BitVec 32 := 0#32
  let v275 : BitVec 1 := Scalar.cmpi .slt v271 c0_i32_166
  let v276 : BitVec 1 := Scalar.xori v274 v275
  let c0_i32_164 : BitVec 32 := 0#32
  let v273 : BitVec 1 := Scalar.cmpi .ne v272 c0_i32_164
  let v277 : BitVec 1 := Scalar.andi v276 v273
  let v278 : BitVec 32 := Scalar.addi v272 v271
  let v279 : BitVec 32 := Scalar.select v277 v278 v272
  let c1_i32_169 : BitVec 32 := 1#32
  let v280 : BitVec 32 := Scalar.muli v279 c1_i32_169
  let v281 : BitVec 32 := Scalar.addi c0_i32_170 v280
  v281.toNat
def k0_dev17 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_174 : BitVec 32 := 2#32
  let v288 : BitVec 32 := Scalar.addi v2 c2_i32_174
  let c16_i32_175 : BitVec 32 := 16#32
  let c0_i32_176 : BitVec 32 := 0#32
  let v289 : BitVec 1 := Scalar.cmpi .eq c16_i32_175 c0_i32_176
  let c1_i32_177 : BitVec 32 := 1#32
  let v290 : BitVec 32 := Scalar.select v289 c1_i32_177 c16_i32_175
  let v291 : BitVec 32 := Scalar.remsi v288 v290
  let c0_i32_179 : BitVec 32 := 0#32
  let v293 : BitVec 1 := Scalar.cmpi .slt v291 c0_i32_179
  let c0_i32_180 : BitVec 32 := 0#32
  let v294 : BitVec 1 := Scalar.cmpi .slt v290 c0_i32_180
  let v295 : BitVec 1 := Scalar.xori v293 v294
  let c0_i32_178 : BitVec 32 := 0#32
  let v292 : BitVec 1 := Scalar.cmpi .ne v291 c0_i32_178
  let v296 : BitVec 1 := Scalar.andi v295 v292
  let v297 : BitVec 32 := Scalar.addi v291 v290
  let v298 : BitVec 32 := Scalar.select v296 v297 v291
  let c1_i32_183 : BitVec 32 := 1#32
  let v299 : BitVec 32 := Scalar.muli v298 c1_i32_183
  let v300 : BitVec 32 := Scalar.addi c0_i32_184 v299
  v300.toNat
def k0_dev18 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_188 : BitVec 32 := 3#32
  let v307 : BitVec 32 := Scalar.addi v2 c3_i32_188
  let c16_i32_189 : BitVec 32 := 16#32
  let c0_i32_190 : BitVec 32 := 0#32
  let v308 : BitVec 1 := Scalar.cmpi .eq c16_i32_189 c0_i32_190
  let c1_i32_191 : BitVec 32 := 1#32
  let v309 : BitVec 32 := Scalar.select v308 c1_i32_191 c16_i32_189
  let v310 : BitVec 32 := Scalar.remsi v307 v309
  let c0_i32_193 : BitVec 32 := 0#32
  let v312 : BitVec 1 := Scalar.cmpi .slt v310 c0_i32_193
  let c0_i32_194 : BitVec 32 := 0#32
  let v313 : BitVec 1 := Scalar.cmpi .slt v309 c0_i32_194
  let v314 : BitVec 1 := Scalar.xori v312 v313
  let c0_i32_192 : BitVec 32 := 0#32
  let v311 : BitVec 1 := Scalar.cmpi .ne v310 c0_i32_192
  let v315 : BitVec 1 := Scalar.andi v314 v311
  let v316 : BitVec 32 := Scalar.addi v310 v309
  let v317 : BitVec 32 := Scalar.select v315 v316 v310
  let c1_i32_197 : BitVec 32 := 1#32
  let v318 : BitVec 32 := Scalar.muli v317 c1_i32_197
  let v319 : BitVec 32 := Scalar.addi c0_i32_198 v318
  v319.toNat
def k0_dev19 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_202 : BitVec 32 := 4#32
  let v326 : BitVec 32 := Scalar.addi v2 c4_i32_202
  let c16_i32_203 : BitVec 32 := 16#32
  let c0_i32_204 : BitVec 32 := 0#32
  let v327 : BitVec 1 := Scalar.cmpi .eq c16_i32_203 c0_i32_204
  let c1_i32_205 : BitVec 32 := 1#32
  let v328 : BitVec 32 := Scalar.select v327 c1_i32_205 c16_i32_203
  let v329 : BitVec 32 := Scalar.remsi v326 v328
  let c0_i32_207 : BitVec 32 := 0#32
  let v331 : BitVec 1 := Scalar.cmpi .slt v329 c0_i32_207
  let c0_i32_208 : BitVec 32 := 0#32
  let v332 : BitVec 1 := Scalar.cmpi .slt v328 c0_i32_208
  let v333 : BitVec 1 := Scalar.xori v331 v332
  let c0_i32_206 : BitVec 32 := 0#32
  let v330 : BitVec 1 := Scalar.cmpi .ne v329 c0_i32_206
  let v334 : BitVec 1 := Scalar.andi v333 v330
  let v335 : BitVec 32 := Scalar.addi v329 v328
  let v336 : BitVec 32 := Scalar.select v334 v335 v329
  let c1_i32_211 : BitVec 32 := 1#32
  let v337 : BitVec 32 := Scalar.muli v336 c1_i32_211
  let v338 : BitVec 32 := Scalar.addi c0_i32_212 v337
  v338.toNat
def k0_dev20 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_216 : BitVec 32 := 5#32
  let v345 : BitVec 32 := Scalar.addi v2 c5_i32_216
  let c16_i32_217 : BitVec 32 := 16#32
  let c0_i32_218 : BitVec 32 := 0#32
  let v346 : BitVec 1 := Scalar.cmpi .eq c16_i32_217 c0_i32_218
  let c1_i32_219 : BitVec 32 := 1#32
  let v347 : BitVec 32 := Scalar.select v346 c1_i32_219 c16_i32_217
  let v348 : BitVec 32 := Scalar.remsi v345 v347
  let c0_i32_221 : BitVec 32 := 0#32
  let v350 : BitVec 1 := Scalar.cmpi .slt v348 c0_i32_221
  let c0_i32_222 : BitVec 32 := 0#32
  let v351 : BitVec 1 := Scalar.cmpi .slt v347 c0_i32_222
  let v352 : BitVec 1 := Scalar.xori v350 v351
  let c0_i32_220 : BitVec 32 := 0#32
  let v349 : BitVec 1 := Scalar.cmpi .ne v348 c0_i32_220
  let v353 : BitVec 1 := Scalar.andi v352 v349
  let v354 : BitVec 32 := Scalar.addi v348 v347
  let v355 : BitVec 32 := Scalar.select v353 v354 v348
  let c1_i32_225 : BitVec 32 := 1#32
  let v356 : BitVec 32 := Scalar.muli v355 c1_i32_225
  let v357 : BitVec 32 := Scalar.addi c0_i32_226 v356
  v357.toNat
def k0_dev21 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_230 : BitVec 32 := 6#32
  let v364 : BitVec 32 := Scalar.addi v2 c6_i32_230
  let c16_i32_231 : BitVec 32 := 16#32
  let c0_i32_232 : BitVec 32 := 0#32
  let v365 : BitVec 1 := Scalar.cmpi .eq c16_i32_231 c0_i32_232
  let c1_i32_233 : BitVec 32 := 1#32
  let v366 : BitVec 32 := Scalar.select v365 c1_i32_233 c16_i32_231
  let v367 : BitVec 32 := Scalar.remsi v364 v366
  let c0_i32_235 : BitVec 32 := 0#32
  let v369 : BitVec 1 := Scalar.cmpi .slt v367 c0_i32_235
  let c0_i32_236 : BitVec 32 := 0#32
  let v370 : BitVec 1 := Scalar.cmpi .slt v366 c0_i32_236
  let v371 : BitVec 1 := Scalar.xori v369 v370
  let c0_i32_234 : BitVec 32 := 0#32
  let v368 : BitVec 1 := Scalar.cmpi .ne v367 c0_i32_234
  let v372 : BitVec 1 := Scalar.andi v371 v368
  let v373 : BitVec 32 := Scalar.addi v367 v366
  let v374 : BitVec 32 := Scalar.select v372 v373 v367
  let c1_i32_239 : BitVec 32 := 1#32
  let v375 : BitVec 32 := Scalar.muli v374 c1_i32_239
  let v376 : BitVec 32 := Scalar.addi c0_i32_240 v375
  v376.toNat
def k0_dev22 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_244 : BitVec 32 := 7#32
  let v383 : BitVec 32 := Scalar.addi v2 c7_i32_244
  let c16_i32_245 : BitVec 32 := 16#32
  let c0_i32_246 : BitVec 32 := 0#32
  let v384 : BitVec 1 := Scalar.cmpi .eq c16_i32_245 c0_i32_246
  let c1_i32_247 : BitVec 32 := 1#32
  let v385 : BitVec 32 := Scalar.select v384 c1_i32_247 c16_i32_245
  let v386 : BitVec 32 := Scalar.remsi v383 v385
  let c0_i32_249 : BitVec 32 := 0#32
  let v388 : BitVec 1 := Scalar.cmpi .slt v386 c0_i32_249
  let c0_i32_250 : BitVec 32 := 0#32
  let v389 : BitVec 1 := Scalar.cmpi .slt v385 c0_i32_250
  let v390 : BitVec 1 := Scalar.xori v388 v389
  let c0_i32_248 : BitVec 32 := 0#32
  let v387 : BitVec 1 := Scalar.cmpi .ne v386 c0_i32_248
  let v391 : BitVec 1 := Scalar.andi v390 v387
  let v392 : BitVec 32 := Scalar.addi v386 v385
  let v393 : BitVec 32 := Scalar.select v391 v392 v386
  let c1_i32_253 : BitVec 32 := 1#32
  let v394 : BitVec 32 := Scalar.muli v393 c1_i32_253
  let v395 : BitVec 32 := Scalar.addi c0_i32_254 v394
  v395.toNat
def k0_dev23 (d0 : Dev nD) : Nat :=
  let c0_i32_268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_258 : BitVec 32 := 8#32
  let v402 : BitVec 32 := Scalar.addi v2 c8_i32_258
  let c16_i32_259 : BitVec 32 := 16#32
  let c0_i32_260 : BitVec 32 := 0#32
  let v403 : BitVec 1 := Scalar.cmpi .eq c16_i32_259 c0_i32_260
  let c1_i32_261 : BitVec 32 := 1#32
  let v404 : BitVec 32 := Scalar.select v403 c1_i32_261 c16_i32_259
  let v405 : BitVec 32 := Scalar.remsi v402 v404
  let c0_i32_263 : BitVec 32 := 0#32
  let v407 : BitVec 1 := Scalar.cmpi .slt v405 c0_i32_263
  let c0_i32_264 : BitVec 32 := 0#32
  let v408 : BitVec 1 := Scalar.cmpi .slt v404 c0_i32_264
  let v409 : BitVec 1 := Scalar.xori v407 v408
  let c0_i32_262 : BitVec 32 := 0#32
  let v406 : BitVec 1 := Scalar.cmpi .ne v405 c0_i32_262
  let v410 : BitVec 1 := Scalar.andi v409 v406
  let v411 : BitVec 32 := Scalar.addi v405 v404
  let v412 : BitVec 32 := Scalar.select v410 v411 v405
  let c1_i32_267 : BitVec 32 := 1#32
  let v413 : BitVec 32 := Scalar.muli v412 c1_i32_267
  let v414 : BitVec 32 := Scalar.addi c0_i32_268 v413
  v414.toNat
def k0_dev24 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_272 : BitVec 32 := 9#32
  let v421 : BitVec 32 := Scalar.addi v2 c9_i32_272
  let c16_i32_273 : BitVec 32 := 16#32
  let c0_i32_274 : BitVec 32 := 0#32
  let v422 : BitVec 1 := Scalar.cmpi .eq c16_i32_273 c0_i32_274
  let c1_i32_275 : BitVec 32 := 1#32
  let v423 : BitVec 32 := Scalar.select v422 c1_i32_275 c16_i32_273
  let v424 : BitVec 32 := Scalar.remsi v421 v423
  let c0_i32_277 : BitVec 32 := 0#32
  let v426 : BitVec 1 := Scalar.cmpi .slt v424 c0_i32_277
  let c0_i32_278 : BitVec 32 := 0#32
  let v427 : BitVec 1 := Scalar.cmpi .slt v423 c0_i32_278
  let v428 : BitVec 1 := Scalar.xori v426 v427
  let c0_i32_276 : BitVec 32 := 0#32
  let v425 : BitVec 1 := Scalar.cmpi .ne v424 c0_i32_276
  let v429 : BitVec 1 := Scalar.andi v428 v425
  let v430 : BitVec 32 := Scalar.addi v424 v423
  let v431 : BitVec 32 := Scalar.select v429 v430 v424
  let c1_i32_281 : BitVec 32 := 1#32
  let v432 : BitVec 32 := Scalar.muli v431 c1_i32_281
  let v433 : BitVec 32 := Scalar.addi c0_i32_282 v432
  v433.toNat
def k0_dev25 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_286 : BitVec 32 := 10#32
  let v440 : BitVec 32 := Scalar.addi v2 c10_i32_286
  let c16_i32_287 : BitVec 32 := 16#32
  let c0_i32_288 : BitVec 32 := 0#32
  let v441 : BitVec 1 := Scalar.cmpi .eq c16_i32_287 c0_i32_288
  let c1_i32_289 : BitVec 32 := 1#32
  let v442 : BitVec 32 := Scalar.select v441 c1_i32_289 c16_i32_287
  let v443 : BitVec 32 := Scalar.remsi v440 v442
  let c0_i32_291 : BitVec 32 := 0#32
  let v445 : BitVec 1 := Scalar.cmpi .slt v443 c0_i32_291
  let c0_i32_292 : BitVec 32 := 0#32
  let v446 : BitVec 1 := Scalar.cmpi .slt v442 c0_i32_292
  let v447 : BitVec 1 := Scalar.xori v445 v446
  let c0_i32_290 : BitVec 32 := 0#32
  let v444 : BitVec 1 := Scalar.cmpi .ne v443 c0_i32_290
  let v448 : BitVec 1 := Scalar.andi v447 v444
  let v449 : BitVec 32 := Scalar.addi v443 v442
  let v450 : BitVec 32 := Scalar.select v448 v449 v443
  let c1_i32_295 : BitVec 32 := 1#32
  let v451 : BitVec 32 := Scalar.muli v450 c1_i32_295
  let v452 : BitVec 32 := Scalar.addi c0_i32_296 v451
  v452.toNat
def k0_dev26 (d0 : Dev nD) : Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_300 : BitVec 32 := 11#32
  let v459 : BitVec 32 := Scalar.addi v2 c11_i32_300
  let c16_i32_301 : BitVec 32 := 16#32
  let c0_i32_302 : BitVec 32 := 0#32
  let v460 : BitVec 1 := Scalar.cmpi .eq c16_i32_301 c0_i32_302
  let c1_i32_303 : BitVec 32 := 1#32
  let v461 : BitVec 32 := Scalar.select v460 c1_i32_303 c16_i32_301
  let v462 : BitVec 32 := Scalar.remsi v459 v461
  let c0_i32_305 : BitVec 32 := 0#32
  let v464 : BitVec 1 := Scalar.cmpi .slt v462 c0_i32_305
  let c0_i32_306 : BitVec 32 := 0#32
  let v465 : BitVec 1 := Scalar.cmpi .slt v461 c0_i32_306
  let v466 : BitVec 1 := Scalar.xori v464 v465
  let c0_i32_304 : BitVec 32 := 0#32
  let v463 : BitVec 1 := Scalar.cmpi .ne v462 c0_i32_304
  let v467 : BitVec 1 := Scalar.andi v466 v463
  let v468 : BitVec 32 := Scalar.addi v462 v461
  let v469 : BitVec 32 := Scalar.select v467 v468 v462
  let c1_i32_309 : BitVec 32 := 1#32
  let v470 : BitVec 32 := Scalar.muli v469 c1_i32_309
  let v471 : BitVec 32 := Scalar.addi c0_i32_310 v470
  v471.toNat
def k0_dev27 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_314 : BitVec 32 := 12#32
  let v478 : BitVec 32 := Scalar.addi v2 c12_i32_314
  let c16_i32_315 : BitVec 32 := 16#32
  let c0_i32_316 : BitVec 32 := 0#32
  let v479 : BitVec 1 := Scalar.cmpi .eq c16_i32_315 c0_i32_316
  let c1_i32_317 : BitVec 32 := 1#32
  let v480 : BitVec 32 := Scalar.select v479 c1_i32_317 c16_i32_315
  let v481 : BitVec 32 := Scalar.remsi v478 v480
  let c0_i32_319 : BitVec 32 := 0#32
  let v483 : BitVec 1 := Scalar.cmpi .slt v481 c0_i32_319
  let c0_i32_320 : BitVec 32 := 0#32
  let v484 : BitVec 1 := Scalar.cmpi .slt v480 c0_i32_320
  let v485 : BitVec 1 := Scalar.xori v483 v484
  let c0_i32_318 : BitVec 32 := 0#32
  let v482 : BitVec 1 := Scalar.cmpi .ne v481 c0_i32_318
  let v486 : BitVec 1 := Scalar.andi v485 v482
  let v487 : BitVec 32 := Scalar.addi v481 v480
  let v488 : BitVec 32 := Scalar.select v486 v487 v481
  let c1_i32_323 : BitVec 32 := 1#32
  let v489 : BitVec 32 := Scalar.muli v488 c1_i32_323
  let v490 : BitVec 32 := Scalar.addi c0_i32_324 v489
  v490.toNat
def k0_dev28 (d0 : Dev nD) : Nat :=
  let c0_i32_338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_328 : BitVec 32 := 13#32
  let v497 : BitVec 32 := Scalar.addi v2 c13_i32_328
  let c16_i32_329 : BitVec 32 := 16#32
  let c0_i32_330 : BitVec 32 := 0#32
  let v498 : BitVec 1 := Scalar.cmpi .eq c16_i32_329 c0_i32_330
  let c1_i32_331 : BitVec 32 := 1#32
  let v499 : BitVec 32 := Scalar.select v498 c1_i32_331 c16_i32_329
  let v500 : BitVec 32 := Scalar.remsi v497 v499
  let c0_i32_333 : BitVec 32 := 0#32
  let v502 : BitVec 1 := Scalar.cmpi .slt v500 c0_i32_333
  let c0_i32_334 : BitVec 32 := 0#32
  let v503 : BitVec 1 := Scalar.cmpi .slt v499 c0_i32_334
  let v504 : BitVec 1 := Scalar.xori v502 v503
  let c0_i32_332 : BitVec 32 := 0#32
  let v501 : BitVec 1 := Scalar.cmpi .ne v500 c0_i32_332
  let v505 : BitVec 1 := Scalar.andi v504 v501
  let v506 : BitVec 32 := Scalar.addi v500 v499
  let v507 : BitVec 32 := Scalar.select v505 v506 v500
  let c1_i32_337 : BitVec 32 := 1#32
  let v508 : BitVec 32 := Scalar.muli v507 c1_i32_337
  let v509 : BitVec 32 := Scalar.addi c0_i32_338 v508
  v509.toNat
def k0_dev29 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_342 : BitVec 32 := 14#32
  let v516 : BitVec 32 := Scalar.addi v2 c14_i32_342
  let c16_i32_343 : BitVec 32 := 16#32
  let c0_i32_344 : BitVec 32 := 0#32
  let v517 : BitVec 1 := Scalar.cmpi .eq c16_i32_343 c0_i32_344
  let c1_i32_345 : BitVec 32 := 1#32
  let v518 : BitVec 32 := Scalar.select v517 c1_i32_345 c16_i32_343
  let v519 : BitVec 32 := Scalar.remsi v516 v518
  let c0_i32_347 : BitVec 32 := 0#32
  let v521 : BitVec 1 := Scalar.cmpi .slt v519 c0_i32_347
  let c0_i32_348 : BitVec 32 := 0#32
  let v522 : BitVec 1 := Scalar.cmpi .slt v518 c0_i32_348
  let v523 : BitVec 1 := Scalar.xori v521 v522
  let c0_i32_346 : BitVec 32 := 0#32
  let v520 : BitVec 1 := Scalar.cmpi .ne v519 c0_i32_346
  let v524 : BitVec 1 := Scalar.andi v523 v520
  let v525 : BitVec 32 := Scalar.addi v519 v518
  let v526 : BitVec 32 := Scalar.select v524 v525 v519
  let c1_i32_351 : BitVec 32 := 1#32
  let v527 : BitVec 32 := Scalar.muli v526 c1_i32_351
  let v528 : BitVec 32 := Scalar.addi c0_i32_352 v527
  v528.toNat
def k0_dev30 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_356 : BitVec 32 := 15#32
  let v535 : BitVec 32 := Scalar.addi v2 c15_i32_356
  let c16_i32_357 : BitVec 32 := 16#32
  let c0_i32_358 : BitVec 32 := 0#32
  let v536 : BitVec 1 := Scalar.cmpi .eq c16_i32_357 c0_i32_358
  let c1_i32_359 : BitVec 32 := 1#32
  let v537 : BitVec 32 := Scalar.select v536 c1_i32_359 c16_i32_357
  let v538 : BitVec 32 := Scalar.remsi v535 v537
  let c0_i32_361 : BitVec 32 := 0#32
  let v540 : BitVec 1 := Scalar.cmpi .slt v538 c0_i32_361
  let c0_i32_362 : BitVec 32 := 0#32
  let v541 : BitVec 1 := Scalar.cmpi .slt v537 c0_i32_362
  let v542 : BitVec 1 := Scalar.xori v540 v541
  let c0_i32_360 : BitVec 32 := 0#32
  let v539 : BitVec 1 := Scalar.cmpi .ne v538 c0_i32_360
  let v543 : BitVec 1 := Scalar.andi v542 v539
  let v544 : BitVec 32 := Scalar.addi v538 v537
  let v545 : BitVec 32 := Scalar.select v543 v544 v538
  let c1_i32_365 : BitVec 32 := 1#32
  let v546 : BitVec 32 := Scalar.muli v545 c1_i32_365
  let v547 : BitVec 32 := Scalar.addi c0_i32_366 v546
  v547.toNat
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x256 : Shape := ⟨2, ![1024, 256]⟩
abbrev S256x64 : Shape := ⟨2, ![256, 64]⟩
abbrev S1024x1 : Shape := ⟨2, ![1024, 1]⟩
abbrev S64x256x512 : Shape := ⟨3, ![64, 256, 512]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩
abbrev S1024x256x512 : Shape := ⟨3, ![1024, 256, 512]⟩
abbrev S1024x512 : Shape := ⟨2, ![1024, 512]⟩

abbrev nBuf : Space → Nat
  | .hbm => 42
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x64, .bf16⟩
  | .hbm, ⟨2, _⟩ => ⟨S1024x1, .i32⟩
  | .hbm, ⟨3, _⟩ => ⟨S64x256x512, .bf16⟩
  | .hbm, ⟨4, _⟩ => ⟨S1024, .i32⟩
  | .hbm, ⟨5, _⟩ => ⟨S1024, .i32⟩
  | .hbm, ⟨6, _⟩ => ⟨S1x1024, .i32⟩
  | .hbm, ⟨7, _⟩ => ⟨S1024x1, .i32⟩
  | .hbm, ⟨8, _⟩ => ⟨S1024x1024, .i32⟩
  | .hbm, ⟨9, _⟩ => ⟨S1024x1024, .i32⟩
  | .hbm, ⟨10, _⟩ => ⟨S1024x1024, .i1⟩
  | .hbm, ⟨11, _⟩ => ⟨S1x1024, .i32⟩
  | .hbm, ⟨12, _⟩ => ⟨S1024x1, .i32⟩
  | .hbm, ⟨13, _⟩ => ⟨S1024x1024, .i32⟩
  | .hbm, ⟨14, _⟩ => ⟨S1024x1024, .i32⟩
  | .hbm, ⟨15, _⟩ => ⟨S1024x1024, .i1⟩
  | .hbm, ⟨16, _⟩ => ⟨S1024x1024, .i1⟩
  | .hbm, ⟨17, _⟩ => ⟨S1024x1024, .i32⟩
  | .hbm, ⟨18, _⟩ => ⟨S_, .i32⟩
  | .hbm, ⟨19, _⟩ => ⟨S1024, .i32⟩
  | .hbm, ⟨20, _⟩ => ⟨S1024x256, .f32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x256x512, .bf16⟩
  | .hbm, ⟨30, _⟩ => ⟨S1024x256x512, .f32⟩
  | .hbm, ⟨31, _⟩ => ⟨S1024x512, .f32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S1024x1, .i1⟩
  | .hbm, ⟨36, _⟩ => ⟨S_, .f32⟩
  | .hbm, ⟨37, _⟩ => ⟨S_, .f32⟩
  | .hbm, ⟨38, _⟩ => ⟨S1024x512, .i1⟩
  | .hbm, ⟨39, _⟩ => ⟨S1024x512, .f32⟩
  | .hbm, ⟨40, _⟩ => ⟨S1024x512, .f32⟩
  | .hbm, ⟨41, _⟩ => ⟨S1024x512, .bf16⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Proof.Protocol.lean ====
/-
The protocol of the sixteen devices, written down: the semaphores, who pays what onto each, and what each payment hands over.

Device `c` has one barrier cell, fifteen send cells and fifteen receive cells in use.

* Device `c` signals the barrier of every other device once. Its `k`-th signal goes to device `c + k` and hands over slot `k` of
  `c`'s own buffer of blocks, which is the slot that device `c + k` writes. Device `c` waits for fifteen on its own barrier.
* Device `c` then copies its own block (slot `0`) to every other device. Its `k`-th copy goes to slot `16 - k` of device `c + k`.
  It pays that device's receive cell `16 - k`, handing over the slot holding the block, and `c`'s own send cell `k`, handing back
  the share of slot `0` that the copy read.
* Device `c` waits on its receive cells `1 … 15`, after which slot `s` holds the block of device `c + s`, reads the whole buffer,
  and last waits on its send cells `1 … 15`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit
public import Idealize.ShloMosaic.Lib.Transfers
public import Idealize.ShloMosaic.Lib.Tactic

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTokN pointsTo_toks_range)

variable {F : FTy → Type} [FloatOps F]

/-! ## The ghost state: the staging copies' rounds and the devices' -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at the start: any contents, every semaphore at zero. -/
def s₀ : MemSt nD τ sig (Elt F) := ⟨m, fun _ => 0, ρ⟩

/-! ## The devices on their circle -/

/-- The device `k` places after `c`. -/
def shift (c : Dev nD) (k : ℕ) : Dev nD := ⟨(c.val + k) % 16, Nat.mod_lt _ (by decide)⟩

theorem shift_val (c : Dev nD) (k : ℕ) : (shift c k).val = (c.val + k) % 16 := rfl
theorem shift_zero (c : Dev nD) : shift c 0 = c := Fin.ext (by rw [shift_val, Nat.add_zero]; exact Nat.mod_eq_of_lt c.isLt)
/-- Going on by `16 - k` after `k` comes back. -/
theorem shift_back (c : Dev nD) {k : ℕ} (hk : k ≤ 16) : shift (shift c k) (16 - k) = c :=
  Fin.ext (by have : c.val < 16 := c.isLt; simp only [shift_val]; omega)
theorem shift_forth (c : Dev nD) {k : ℕ} (hk : k ≤ 16) : shift (shift c (16 - k)) k = c :=
  Fin.ext (by have : c.val < 16 := c.isLt; simp only [shift_val]; omega)

/-- Stepping by `k` permutes the devices. -/
def turn (k : ℕ) (hk : k ≤ 16) : Dev nD ≃ Dev nD :=
  ⟨fun c => shift c k, fun c => shift c (16 - k), fun c => shift_back c hk, fun c => shift_forth c hk⟩

/-! ## The cells -/

/-- The runtime's barrier semaphore. -/
abbrev barS : Sem sig := (SemArray.scalar (sig.barrier 0 rfl) : Sems sig S_).sem
/-- Entry `k` of the array of send semaphores, and of the array of receive semaphores. -/
def sendS (k : ℕ) : DmaSem sig := ⟨(5 + k) % 37, Nat.mod_lt _ (by decide)⟩
def recvS (k : ℕ) : DmaSem sig := ⟨(21 + k) % 37, Nat.mod_lt _ (by decide)⟩

abbrev barC (c : Dev nD) : GSem nD τ sig := ((c : Thread nD τ), .reg barS)
abbrev sendC (c : Dev nD) (k : ℕ) : GSem nD τ sig := ((c : Thread nD τ), .dma (sendS k))
abbrev recvC (c : Dev nD) (k : ℕ) : GSem nD τ sig := ((c : Thread nD τ), .dma (recvS k))

theorem sendS_val {k : ℕ} (hk : k < 16) : (sendS k).val = 5 + k := Nat.mod_eq_of_lt (by omega)
theorem recvS_val {k : ℕ} (hk : k < 16) : (recvS k).val = 21 + k := Nat.mod_eq_of_lt (by omega)

/-! ## The buffer of blocks and its slots -/

/-- The buffer of blocks on device `c`. -/
abbrev bufL (c : Dev nD) : Loc nD τ sig := (c : Thread nD τ).loc cc0_scratch0

/-- The elements of slot `s`: rows `48 s … 48 s + 47`. -/
def slotSet (s : ℕ) : Finset ((cc0_scratch0 : Ref sig .tc).ty.shape.Idx) :=
  Finset.univ.filter fun i => (i (0 : Fin 2)).val / 48 = s
/-- The elements of slots `1 … 15`. -/
def restSet : Finset ((cc0_scratch0 : Ref sig .tc).ty.shape.Idx) := Finset.univ \ slotSet 0

theorem slot_inb (s : ℕ) (hs : s < 16) : ∀ a, (![48 * s, 0] : Fin 2 → ℕ) a + S48x512.size a ≤ S768x512.size a := fun a => by
  fin_cases a
  · show 48 * s + 48 ≤ 768; omega
  · show 0 + 512 ≤ 512; omega

/-- Slot `s` as a memory reference. -/
abbrev slotM (s : ℕ) (hs : s < 16) : Memref sig .tc .vmem S48x512 .bf16 :=
  (Memref.whole cc0_scratch0 : Memref sig .tc .vmem S768x512 .bf16).slice (Rect.unit (s := S768x512) ![48 * s, 0] S48x512.size (slot_inb s hs)) (fun _ => rfl)

theorem slotM_set (s : ℕ) (hs : s < 16) : (slotM s hs).view.set = slotSet s := by
  ext i
  have h : i ∈ ((View.whole cc0_scratch0).slice (Rect.unit (s := S768x512) ![48 * s, 0] S48x512.size (slot_inb s hs))).set
      ↔ ∀ a, (![48 * s, 0] : Fin 2 → ℕ) a ≤ (i a).val ∧ (i a).val < (![48 * s, 0] : Fin 2 → ℕ) a + S48x512.size a := by
    rw [View.set_slice_whole]; exact Rect.mem_set_unit
  refine h.trans ?_
  rw [slotSet, Finset.mem_filter]
  have h1 : (i (1 : Fin 2)).val < 512 := (i (1 : Fin 2)).isLt
  constructor
  · intro h
    have h0 := h 0
    change 48 * s ≤ (i (0 : Fin 2)).val ∧ (i (0 : Fin 2)).val < 48 * s + 48 at h0
    exact ⟨Finset.mem_univ _, by omega⟩
  · rintro ⟨-, h⟩ a
    fin_cases a
    · show 48 * s ≤ (i (0 : Fin 2)).val ∧ (i (0 : Fin 2)).val < 48 * s + 48
      omega
    · show 0 ≤ (i (1 : Fin 2)).val ∧ (i (1 : Fin 2)).val < 0 + 512
      omega

/-- A slot's credit: what a copy of one block pays. -/
abbrev N : ℕ := (slotM 0 (by decide)).view.dmaCredit
theorem N_pos : 0 < N := View.dmaCredit_pos _ (by decide)
theorem slotM_credit (s : ℕ) (hs : s < 16) : (slotM s hs).view.dmaCredit = N := rfl

theorem slotSet_disjoint {s t : ℕ} (h : s ≠ t) : Disjoint (slotSet s) (slotSet t) :=
  Finset.disjoint_left.mpr fun i hi hj => h ((Finset.mem_filter.mp hi).2.symm.trans (Finset.mem_filter.mp hj).2)

theorem restSet_eq : (Finset.Ico 1 16).biUnion slotSet = restSet := by
  ext i
  have h0 : (i (0 : Fin 2)).val < 768 := (i (0 : Fin 2)).isLt
  rw [restSet, Finset.mem_biUnion, Finset.mem_sdiff]
  simp only [slotSet, Finset.mem_filter, Finset.mem_univ, true_and, Finset.mem_Ico]
  constructor
  · rintro ⟨s, hs, h⟩; omega
  · intro h; exact ⟨_, by omega, rfl⟩

/-! ## Contents -/

/-- A device's number as the kernel computes it from the machine's word. -/
def devw (c : Dev nD) : BitVec 32 := Scalar.remsi (Scalar.divsi (Dev.word c) 1#32) 16#32

/-- What the staging buffers of the four inputs hold on device `c`: the whole arrays. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg1))
def istg (c : Dev nD) : (cc0_stg2_0 : Ref sig .tc).ty.Contents (Elt F) :=
  (win0_2.blk (0 : Fin 1)).view.read (Elt F) ((s₀ m ρ).mem ((c : Thread nD τ).loc main_arg2))
def wstg (c : Dev nD) : (cc0_stg3_0 : Ref sig .tc).ty.Contents (Elt F) :=
  (win0_3.blk (0 : Fin 1)).view.read (Elt F) ((s₀ m ρ).mem ((c : Thread nD τ).loc main_arg3))

/-- The block that device `c` computes: its forty-eight rows, twelve for each of its four experts. -/
def block (c : Dev nD) : Vec F S48x512 .bf16 :=
  k0_pay3 (k0_pay2 (F := F) (devw c) (istg m ρ c)) (xstg m ρ c)
    ((Memref.whole cc0_stg3_0 : Memref sig .tc .vmem S4x256x512 .bf16).view.readAt (Elt F) (Rect.unit (s := S4x256x512) ![0, 0, 0] S1x256x512.size inb_S4x256x512_S1x256x512_0_0_0).toLoadRect (wstg m ρ c))
    ((Memref.whole cc0_stg3_0 : Memref sig .tc .vmem S4x256x512 .bf16).view.readAt (Elt F) (Rect.unit (s := S4x256x512) ![1, 0, 0] S1x256x512.size inb_S4x256x512_S1x256x512_1_0_0).toLoadRect (wstg m ρ c))
    ((Memref.whole cc0_stg3_0 : Memref sig .tc .vmem S4x256x512 .bf16).view.readAt (Elt F) (Rect.unit (s := S4x256x512) ![2, 0, 0] S1x256x512.size inb_S4x256x512_S1x256x512_2_0_0).toLoadRect (wstg m ρ c))
    ((Memref.whole cc0_stg3_0 : Memref sig .tc .vmem S4x256x512 .bf16).view.readAt (Elt F) (Rect.unit (s := S4x256x512) ![3, 0, 0] S1x256x512.size inb_S4x256x512_S1x256x512_3_0_0).toLoadRect (wstg m ρ c))

/-- The index of row `r % 48` of a block, at the same column. -/
def inSlot (i : S768x512.Idx) : S48x512.Idx :=
  fun a => match a with
    | ⟨0, _⟩ => (⟨(i (0 : Fin 2)).val % 48, Nat.mod_lt _ (by decide)⟩ : Fin 48)
    | ⟨1, _⟩ => (i (1 : Fin 2) : Fin 512)

/-- The buffer of blocks of device `c` when every block has arrived: slot `s` holds the block of device `c + s`. -/
def blocks (c : Dev nD) : Vec F S768x512 .bf16 :=
  fun i => block m ρ (shift c ((i (0 : Fin 2)).val / 48)) (inSlot i)

/-- The kernel's result on device `c`. -/
def outAt (c : Dev nD) : (cc0_stg4_0 : Ref sig .tc).ty.Contents (Elt F) :=
  k0_pay5 (k0_pay4 (devw c) (k0_pay1 (F := F) (istg m ρ c))) (blocks m ρ c)

/-! ## The schedule -/

/-- Part of the buffer of blocks of device `c`, at a share. -/
def bufPts (c : Dev nD) (S : Finset ((cc0_scratch0 : Ref sig .tc).ty.shape.Idx)) (q : PosShare TreeShare)
    (f : Buf (Elt F) (bufL c)) : sProp 𝕄 := bufL c ↦[S]{q} f

omit [FloatOps F] in
instance bufPts_storable (c : Dev nD) (S) (q) (f) : BI.Storable (upEmb : UEmb _ 𝕄) (bufPts (F := F) c S q f) := by
  unfold bufPts; infer_instance

/-- What the payment `d` of device `c`'s barrier hands over: slot `16 - d` of device `c + d`, which `c`'s copy `d` will write. -/
def barPay (c : Dev nD) (d : ℕ) : sProp 𝕄 := iprop(∃ f, bufPts (shift c d) (slotSet (16 - d)) fullShare f)
/-- What the copy `k` of device `c` hands back when it has read its source: its share of slot `0`. -/
def sendPay (c : Dev nD) (k : ℕ) : sProp 𝕄 := bufPts c (slotSet 0) (shareTokN fullShare k) (blocks m ρ c)
/-- What a landing in slot `s` of device `c` hands over: the slot, holding its block. -/
def recvPay (c : Dev nD) (s : ℕ) : sProp 𝕄 := bufPts c (slotSet s) fullShare (blocks m ρ c)

/-- One round. A barrier has fifteen payments of one unit, named `1 … 15`; a send or receive cell in use one payment of a block's credit. -/
def sched : Rounds.Schedule (GSem nD τ sig) ℕ 𝕄 where
  duties g r := if r = 0 ∧ g.1.2 = .tc then
      (match g.2 with
        | .reg _ => Finset.Ico 1 16
        | .dma q => if 6 ≤ q.val ∧ q.val ≠ 21 then {0} else ∅)
    else ∅
  unitless _ := False
  amount g _ _ := match g.2 with
    | .reg _ => 1
    | .dma _ => N
  payload g _ d := match g.2 with
    | .reg _ => barPay g.1.1 d
    | .dma q => if q.val < 21 then sendPay m ρ g.1.1 (q.val - 5) else recvPay m ρ g.1.1 (q.val - 21)
  amount_pos g _ _ _ := by
    cases g.2
    · exact Nat.one_pos
    · exact N_pos

instance sched_payload_storable (g : GSem nD τ sig) (r : ℕ) (d : ℕ) :
    BI.Storable (upEmb : UEmb _ 𝕄) ((sched (F := F) m ρ).payload g r d) := by
  unfold sched barPay sendPay recvPay
  dsimp only
  split
  · infer_instance
  · split <;> infer_instance

section Sched
variable (c : Dev nD)

theorem duties_bar : (sched (F := F) m ρ).duties (barC c) 0 = Finset.Ico 1 16 := rfl
theorem duties_send {k : ℕ} (h1 : 1 ≤ k) (hk : k < 16) : (sched (F := F) m ρ).duties (sendC c k) 0 = {0} := by
  have h := sendS_val hk
  dsimp only [sched]
  rw [if_pos ⟨rfl, rfl⟩, if_pos (by omega)]
theorem duties_recv {k : ℕ} (h1 : 1 ≤ k) (hk : k < 16) : (sched (F := F) m ρ).duties (recvC c k) 0 = {0} := by
  have h := recvS_val hk
  dsimp only [sched]
  rw [if_pos ⟨rfl, rfl⟩, if_pos (by omega)]
theorem duties_later (g : GSem nD τ sig) : ∀ r, 1 ≤ r → (sched (F := F) m ρ).duties g r = ∅ := fun r hr => by
  dsimp only [sched]; rw [if_neg fun h => by omega]

theorem amount_bar (d : ℕ) : (sched (F := F) m ρ).amount (barC c) 0 d = 1 := rfl
theorem amount_send (k d : ℕ) : (sched (F := F) m ρ).amount (sendC c k) 0 d = N := rfl
theorem amount_recv (k d : ℕ) : (sched (F := F) m ρ).amount (recvC c k) 0 d = N := rfl

theorem expect_bar : (sched (F := F) m ρ).expect (barC c) 0 = 15 := by
  unfold Schedule.expect Schedule.amountOf
  rw [duties_bar, Finset.sum_congr rfl fun d _ => amount_bar m ρ c d]; rfl
theorem expect_send {k : ℕ} (h1 : 1 ≤ k) (hk : k < 16) : (sched (F := F) m ρ).expect (sendC c k) 0 = N := by
  unfold Schedule.expect Schedule.amountOf; rw [duties_send m ρ c h1 hk, Finset.sum_singleton, amount_send]
theorem expect_recv {k : ℕ} (h1 : 1 ≤ k) (hk : k < 16) : (sched (F := F) m ρ).expect (recvC c k) 0 = N := by
  unfold Schedule.expect Schedule.amountOf; rw [duties_recv m ρ c h1 hk, Finset.sum_singleton, amount_recv]

theorem payload_bar (d : ℕ) : (sched (F := F) m ρ).payload (barC c) 0 d = barPay c d := rfl
theorem payload_send {k : ℕ} (hk : k < 16) (d : ℕ) : (sched (F := F) m ρ).payload (sendC c k) 0 d = sendPay m ρ c k := by
  have h := sendS_val hk
  dsimp only [sched]
  rw [if_pos (by omega), h, Nat.add_sub_cancel_left]
theorem payload_recv {k : ℕ} (hk : k < 16) (d : ℕ) : (sched (F := F) m ρ).payload (recvC c k) 0 d = recvPay m ρ c k := by
  have h := recvS_val hk
  dsimp only [sched]
  rw [if_neg (by omega), h, Nat.add_sub_cancel_left]

/-- The whole round of a barrier: the fifteen slots. -/
theorem rest_bar : bigSep ((sched (F := F) m ρ).duties (barC c) 0 \ ∅) (fun d => (sched (F := F) m ρ).payload (barC c) 0 d)
    = bigSep (Finset.Ico 1 16) fun d => barPay (F := F) c d := by
  rw [Finset.sdiff_empty, duties_bar]; rfl
theorem rest_send {k : ℕ} (h1 : 1 ≤ k) (hk : k < 16) :
    bigSep ((sched (F := F) m ρ).duties (sendC c k) 0 \ ∅) (fun d => (sched (F := F) m ρ).payload (sendC c k) 0 d) = sendPay m ρ c k := by
  rw [Finset.sdiff_empty, duties_send m ρ c h1 hk, bigSep_singleton, payload_send m ρ c hk]
theorem rest_recv {k : ℕ} (h1 : 1 ≤ k) (hk : k < 16) :
    bigSep ((sched (F := F) m ρ).duties (recvC c k) 0 \ ∅) (fun d => (sched (F := F) m ρ).payload (recvC c k) 0 d) = recvPay m ρ c k := by
  rw [Finset.sdiff_empty, duties_recv m ρ c h1 hk, bigSep_singleton, payload_recv m ρ c hk]

end Sched

/-! ## What a device owes, and the order in which the cells are waited for -/

/-- What device `c` owes to the receive cells for its copies `k … 15`. -/
def owedRecv (c : Dev nD) (k : ℕ) : CellTallies nD τ sig Unit := ∑ j ∈ Finset.Ico k 16, tallyAt (recvC (shift c j) (16 - j)) () N
/-- What device `c` owes in all before its signal `k`. -/
def owedBar (c : Dev nD) (k : ℕ) : CellTallies nD τ sig Unit := owedRecv c 1 + ∑ j ∈ Finset.Ico k 16, tallyAt (barC (shift c j)) () 1

theorem owedRecv_step (c : Dev nD) {k : ℕ} (hk : k < 16) : owedRecv c k = owedRecv c (k + 1) + tallyAt (recvC (shift c k) (16 - k)) () N := by
  unfold owedRecv; rw [Finset.sum_eq_sum_Ico_succ_bot hk, add_comm]
theorem owedBar_step (c : Dev nD) {k : ℕ} (hk : k < 16) : owedBar c k = owedBar c (k + 1) + tallyAt (barC (shift c k)) () 1 := by
  unfold owedBar; rw [Finset.sum_eq_sum_Ico_succ_bot hk, add_assoc, add_comm (tallyAt _ _ _)]
theorem owedRecv_end (c : Dev nD) : owedRecv c 16 = 0 := by unfold owedRecv; rw [Finset.Ico_self, Finset.sum_empty]
theorem owedBar_end (c : Dev nD) : owedBar c 16 = owedRecv c 1 := by unfold owedBar; rw [Finset.Ico_self, Finset.sum_empty, add_zero]

def L (g : GSem nD τ sig) : Finset Unit := if g.1.2 = .tc then {()} else ∅
/-- Barriers first, receive cells after them, everything else before both. -/
def lv (g : GSem nD τ sig) (_ : Unit) : ℕ := match g.2 with
  | .reg _ => 1
  | .dma q => if 22 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) {k : ℕ} (h1 : 1 ≤ k) (hk : k < 16) : lv (recvC c k) () = 2 := by
  have := recvS_val hk
  show (if 22 ≤ (recvS k).val then 2 else 0) = 2
  rw [if_pos (by omega)]

/-- A sum of tallies is positive at a cell only if one of them is of that cell. -/
theorem sum_tally_pos {cell : ℕ → GSem nD τ sig} {n : ℕ} {S : Finset ℕ} {g : GSem nD τ sig} {u : Unit}
    (h : 0 < (∑ j ∈ S, tallyAt (cell j) () n : CellTallies nD τ sig Unit) g u) : ∃ j ∈ S, g = cell j := by
  classical
  by_contra hn
  have hz : (∑ j ∈ S, tallyAt (cell j) () n : CellTallies nD τ sig Unit) g u = 0 := by
    rw [Finset.sum_apply, Finsupp.finset_sum_apply]
    refine Finset.sum_eq_zero fun j hj => ?_
    rw [tallyAt_apply, if_neg fun h => hn ⟨j, hj, h.1⟩]
  omega

theorem owedRecv_pos {c : Dev nD} {k : ℕ} {g : GSem nD τ sig} {u : Unit} (h : 0 < owedRecv c k g u) :
    ∃ j ∈ Finset.Ico k 16, g = recvC (shift c j) (16 - j) := sum_tally_pos h

theorem owedBar_pos {c : Dev nD} {g : GSem nD τ sig} {u : Unit} (h : 0 < owedBar c 1 g u) :
    (∃ j ∈ Finset.Ico 1 16, g = recvC (shift c j) (16 - j)) ∨ ∃ j ∈ Finset.Ico 1 16, g = barC (shift c j) := by
  unfold owedBar at h
  rw [Pi.add_apply, Finsupp.add_apply] at h
  by_cases h0 : 0 < owedRecv c 1 g u
  · exact .inl (owedRecv_pos h0)
  · rw [Nat.eq_zero_of_not_pos h0, Nat.zero_add] at h
    exact .inr (sum_tally_pos h)

omit [FloatOps F] in
/-- A staging copy's cell is waited for before everything a device owes. -/
theorem mayWait_stage (c : Dev nD) (q : DmaSem sig) (hq : q.val < 22) (O : CellTallies nD τ sig Unit) (hO : O = owedBar c 1 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedBar_pos hg with ⟨j, -, rfl⟩ | ⟨j, -, rfl⟩ <;> exact Finset.mem_singleton_self _)
      (fun p hp => by rw [Finset.mem_singleton.mp hp]; show (if 22 ≤ q.val then 2 else 0) ≤ 0; rw [if_neg (by omega)])
      (fun g u hg => by
        rcases owedBar_pos hg with ⟨j, hj, rfl⟩ | ⟨j, hj, rfl⟩
        · rw [Finset.mem_Ico] at hj
          rw [lv_recv _ (by omega) (by omega)]; decide
        · show 0 < 1; decide)
  · rw [MayWait_zero]; iintro -; iempintro

omit [FloatOps F] in
/-- At its barrier wait a device owes its copies only, which are waited for later. -/
theorem mayWait_bar (c : Dev nD) :
    (levAts L lv : sProp 𝕄) ⊢ MayWait (c : Thread nD τ) (.reg barS) () (owedRecv c 1) :=
  MayOwe.of_cut (L := L) (lev := lv) 1 (fun p hp => by rw [Finset.mem_singleton.mp hp, L_tc]; exact Finset.mem_singleton_self _)
    (fun g u hg => by obtain ⟨j, -, rfl⟩ := owedRecv_pos hg; exact Finset.mem_singleton_self _)
    (fun p hp => by rw [Finset.mem_singleton.mp hp]; exact le_refl 1)
    (fun g u hg => by
      obtain ⟨j, hj, rfl⟩ := owedRecv_pos hg
      rw [Finset.mem_Ico] at hj
      rw [lv_recv _ (by omega) (by omega)]; decide)

end Cert.KernelIdeal.Moe

end
-- ==== Proof.Steps.lean ====
/-
One step of each kind, once for every number: a signal, a copy, a wait for a block, a wait for a device's own copy.

Each step is stated over what its phase of the program holds, as a family over the steps still to come and the steps done.
-/
module

public import proofs.«01_k».proof.Proof.Protocol
public import Idealize.SL.BI.BigOpNat

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTokN pointsTo_toks_range)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

theorem z16 : 0 < 16 := by decide
theorem sub16 {k : ℕ} (h : 1 ≤ k) : 16 - k < 16 := by omega

/-! ## Contents of a slot -/

/-- Writing a block through slot `s` leaves its rows there. -/
theorem write_slot (s : ℕ) (hs : s < 16) (f : Vec F S768x512 .bf16) (w : Vec F S48x512 .bf16) :
    ∀ i ∈ slotSet s, (slotM s hs).view.write (Elt F) f w Finset.univ i = w (inSlot i) := fun i hi => by
  have hi' : (i (0 : Fin 2)).val / 48 = s := (Finset.mem_filter.mp hi).2
  have h1 : (i (1 : Fin 2)).val < 512 := (i (1 : Fin 2)).isLt
  have h : (slotM s hs).view.write (Elt F) f w Finset.univ = updateSlice (s := S768x512) (u := S48x512) f w ![48 * s, 0] ⟨rfl, slot_inb s hs⟩ :=
    View.write_whole_slice_unit (Val := Elt F) cc0_scratch0 ![48 * s, 0] S48x512.size (slot_inb s hs) f w
  rw [h]
  unfold updateSlice
  rw [dif_pos (fun a => by
    fin_cases a
    · show 48 * s ≤ (i (0 : Fin 2)).val ∧ (i (0 : Fin 2)).val < 48 * s + 48; omega
    · show 0 ≤ (i (1 : Fin 2)).val ∧ (i (1 : Fin 2)).val < 0 + 512; omega)]
  congr 1
  funext b
  apply Fin.ext
  fin_cases b
  · show (i (0 : Fin 2)).val - 48 * s = (i (0 : Fin 2)).val % 48; omega
  · show (i (1 : Fin 2)).val - 0 = (i (1 : Fin 2)).val; omega

/-- What slot `0` reads from the buffer of blocks: the device's own block. -/
theorem read_slot (c : Dev nD) : (slotM 0 z16).view.read (Elt F) (blocks m ρ c) = block m ρ c := by
  funext x
  have h0 : (x (0 : Fin 2)).val < 48 := (x (0 : Fin 2)).isLt
  have e0 : (((slotM 0 z16).view.emb x) (0 : Fin 2)).val = (x (0 : Fin 2)).val := by
    show 48 * 0 + 1 * (x (0 : Fin 2)).val = _; omega
  have e1 : (((slotM 0 z16).view.emb x) (1 : Fin 2)).val = (x (1 : Fin 2)).val := by
    show 0 + 1 * (x (1 : Fin 2)).val = _; omega
  have hc : shift c ((((slotM 0 z16).view.emb x) (0 : Fin 2)).val / 48) = c := by
    rw [e0, show (x (0 : Fin 2)).val / 48 = 0 by omega]; exact shift_zero c
  have hx : inSlot ((slotM 0 z16).view.emb x) = x := by
    funext a
    apply Fin.ext
    fin_cases a
    · show (((slotM 0 z16).view.emb x) (0 : Fin 2)).val % 48 = (x (0 : Fin 2)).val
      rw [e0]; omega
    · show (((slotM 0 z16).view.emb x) (1 : Fin 2)).val = (x (1 : Fin 2)).val
      exact e1
  show block m ρ (shift c ((((slotM 0 z16).view.emb x) (0 : Fin 2)).val / 48)) (inSlot ((slotM 0 z16).view.emb x)) = block m ρ c x
  rw [hc, hx]

/-- After the store of its block, slot `0` of device `c` holds what it will at the end. -/
theorem stored_slot (c : Dev nD) (f : Vec F S768x512 .bf16) :
    ∀ i ∈ slotSet 0, (slotM 0 z16).view.write (Elt F) f (block m ρ c) Finset.univ i = blocks m ρ c i := fun i hi => by
  refine (write_slot 0 (by decide) f (block m ρ c) i hi).trans ?_
  have hi' : (i (0 : Fin 2)).val / 48 = 0 := (Finset.mem_filter.mp hi).2
  unfold blocks
  rw [hi', shift_zero]

/-- After copy `k` of device `c` has landed, slot `16 - k` of device `c + k` holds what it will at the end. -/
theorem landed_slot (c : Dev nD) {k : ℕ} (h1 : 1 ≤ k) (hk : k < 16) (f : Vec F S768x512 .bf16) :
    ∀ i ∈ slotSet (16 - k), (slotM (16 - k) (sub16 h1)).view.write (Elt F) f ((slotM 0 z16).view.read (Elt F) (blocks m ρ c)) Finset.univ i
      = blocks m ρ (shift c k) i := fun i hi => by
  have h := write_slot (16 - k) (sub16 h1) f ((slotM 0 z16).view.read (Elt F) (blocks m ρ c)) i hi
  refine h.trans ((congrFun (read_slot m ρ c) (inSlot i)).trans ?_)
  have hi' : (i (0 : Fin 2)).val / 48 = 16 - k := (Finset.mem_filter.mp hi).2
  unfold blocks
  rw [hi', shift_back c (by omega)]

/-! ## The cells all together, and what every device knows of them -/

/-- The scoped semaphores of a device: the sixteen send, then the sixteen receive. -/
def osem (i : Fin 32) : SemLoc sig := .dma ⟨5 + i.val, by have := i.isLt; show 5 + i.val < 37; omega⟩
/-- A device's cells: the barrier, then the scoped ones. -/
def csem (i : Fin 33) : SemLoc sig := if h : i.val = 0 then .reg barS else osem ⟨i.val - 1, by have := i.isLt; omega⟩
abbrev kcell (ci : Dev nD × Fin 33) : GSem nD τ sig := ((ci.1 : Thread nD τ), csem ci.2)

def iS (k : ℕ) : Fin 33 := ⟨(1 + k) % 33, Nat.mod_lt _ (by decide)⟩
def iR (k : ℕ) : Fin 33 := ⟨(17 + k) % 33, Nat.mod_lt _ (by decide)⟩

theorem kcell_bar (c : Dev nD) : kcell (c, 0) = barC c := rfl
theorem kcell_own (c : Dev nD) (i : Fin 32) : kcell (c, i.succ) = ((c : Thread nD τ), osem i) := rfl
theorem csem_S {k : ℕ} (hk : k < 16) : csem (iS k) = .dma (sendS k) := by
  have h : (iS k).val = 1 + k := Nat.mod_eq_of_lt (by omega)
  have h' := sendS_val hk
  unfold csem osem
  rw [dif_neg (by omega)]
  exact congrArg SemLoc.dma (Fin.ext (by show 5 + ((iS k).val - 1) = _; omega))
theorem csem_R {k : ℕ} (hk : k < 16) : csem (iR k) = .dma (recvS k) := by
  have h : (iR k).val = 17 + k := Nat.mod_eq_of_lt (by omega)
  have h' := recvS_val hk
  unfold csem osem
  rw [dif_neg (by omega)]
  exact congrArg SemLoc.dma (Fin.ext (by show 5 + ((iR k).val - 1) = _; omega))
theorem kcell_send (c : Dev nD) {k : ℕ} (hk : k < 16) : kcell (c, iS k) = sendC c k := by
  show ((c : Thread nD τ), csem (iS k)) = _; rw [csem_S hk]
theorem kcell_recv (c : Dev nD) {k : ℕ} (hk : k < 16) : kcell (c, iR k) = recvC c k := by
  show ((c : Thread nD τ), csem (iR k)) = _; rw [csem_R hk]

/-- The two cells of index `0` take no payments at all. -/
theorem duties_send_zero (c : Dev nD) (r : ℕ) : (sched (F := F) m ρ).duties (sendC c 0) r = ∅ := by
  have h := sendS_val (k := 0) (by decide)
  dsimp only [sched]
  split
  · rw [if_neg (by omega)]
  · rfl
theorem duties_recv_zero (c : Dev nD) (r : ℕ) : (sched (F := F) m ρ).duties (recvC c 0) r = ∅ := by
  have h := recvS_val (k := 0) (by decide)
  dsimp only [sched]
  split
  · rw [if_neg (by omega)]
  · rfl

/-- The invariants of all cells, and that each is at round `0`. -/
def records (K : Dev nD × Fin 33 → ℕ) : sProp 𝕄 :=
  bigSep Finset.univ fun ci : Dev nD × Fin 33 => iprop(cellInv ER (sched m ρ) (K ci) (kcell ci) ∗ reached ER (kcell ci) 0)

instance records_persistent (K : Dev nD × Fin 33 → ℕ) : BI.Persistent (records (F := F) m ρ K) := by
  unfold records; infer_instance

theorem records_at (K : Dev nD × Fin 33 → ℕ) {ci : Dev nD × Fin 33} {g : GSem nD τ sig} (h : kcell ci = g) :
    records (F := F) m ρ K ⊢ iprop(cellInv ER (sched m ρ) (K ci) g ∗ reached ER g 0) := by
  subst h; exact BI.bigSep_elim (Finset.mem_univ ci)

/-- What a device owes, whatever waits it has recorded. -/
def owesAny (c : Dev nD) (O : CellTallies nD τ sig Unit) : sProp 𝕄 := iprop(∃ W, owes (c : Thread nD τ) O W)

/-! ## One signal -/

/-- Before signal `k`: what is owed, and the payments and slots of the signals `k … 15`. -/
def sigSt (c : Dev nD) (f : Buf (Elt F) (bufL c)) (k : ℕ) : sProp 𝕄 :=
  iprop(owesAny c (owedBar c k) ∗ bigSep (Finset.Ico k 16) fun j =>
    iprop(dutyTok ER (barC (shift c j)) 0 (16 - j) ∗ bufPts c (slotSet j) fullShare f))

theorem step_signal (K : Dev nD × Fin 33 → ℕ) (c : Dev nD) (f : Buf (Elt F) (bufL c)) (k : ℕ) (h1 : 1 ≤ k) (hk : k < 16)
    {n : Dev nD} (hn : n = shift c k) {a : ℕ} (ha : a = 1) {s : Sem sig} (hs : s = barS) {α : Type} {Q : α → sProp 𝕄}
    {p : PUnit → Prog (TpuEff nD τ sig (Elt F) Λ₀ .tc) α} :
    iprop(records m ρ K ∗ sigSt c f k)
      ⊢ iprop(((records m ρ K ∗ sigSt c f (k + 1)) -∗ wp frame (wpE (defs₀ (F := F)) 𝒱₀ (c : Thread nD τ) none) Set.univ (p ⟨⟩) Q)
          -∗ wp frame (wpE (defs₀ (F := F)) 𝒱₀ (c : Thread nD τ) none) Set.univ (.op (.semSignal (n : Thread nD τ) s a) p) Q) := by
  subst hn ha hs
  unfold sigSt owesAny
  rw [bigSep_Ico_succ_bot hk]
  iintro ⟨#HR, ⟨%W, HO⟩, ⟨Ht, Hb⟩, Hrest⟩ Hk
  ihave HI := (records_at m ρ K (kcell_bar (shift c k))) $$ HR
  icases HI with ⟨HI, Hr⟩
  iapply (Rounds.wp_signal 𝒱₀ ER (sched m ρ) (c : Thread nD τ) none (dst := (shift c k : Thread nD τ)) (κ := K (shift c k, 0))
      (d := 16 - k) (by rw [duties_bar]; exact Finset.mem_Ico.mpr ⟨by omega, by omega⟩) (amount_bar m ρ (shift c k) (16 - k)) ()
      (owedBar c (k + 1)) (owedBar_step c hk)) $$ [HI Hr HO Ht Hb]
  · isplitl [HI]; · iexact HI
    isplitl [HO]; · iexact HO
    isplitl [Ht]; · iexact Ht
    isplitl [Hb]
    · rw [payload_bar]; unfold barPay
      rw [shift_back c (by omega), show 16 - (16 - k) = k by omega]
      iexists f; iexact Hb
    · iexact Hr
  iintro HO
  iapply Hk
  isplitr; · iexact HR
  isplitl [HO]; · iexists W; iexact HO
  iexact Hrest

/-! ## One copy -/

/-- Before copy `k`: what is owed, what the copies `k … 15` need, and the credit of the ones issued. -/
def sndSt (c : Dev nD) (k : ℕ) : sProp 𝕄 :=
  iprop(owesAny c (owedRecv c k)
    ∗ (bigSep (Finset.Ico k 16) fun j =>
        iprop(dutyTok ER (sendC c j) 0 0 ∗ dutyTok ER (recvC (shift c j) (16 - j)) 0 0 ∗ sendPay m ρ c j ∗ barPay c j))
    ∗ bigSep (Finset.Ico 1 k) fun j => cred (tallyAt (sendC c j) () N))

theorem step_send (K : Dev nD × Fin 33 → ℕ) (c : Dev nD) (k : ℕ) (h1 : 1 ≤ k) (hk : k < 16)
    {n : Dev nD} (hn : n = shift c k) {sS sR : DmaSem sig} (hS : sS = sendS k) (hR : sR = recvS (16 - k))
    {src dst : Memref sig .tc .vmem S48x512 .bf16} (hsr : src = slotM 0 z16) (hds : dst = slotM (16 - k) (sub16 h1))
    {hsc : dst.view.ref.isScScratch = false} {hsrc : src.view.WordExact} {hdst : dst.view.WordExact}
    {hsem : DmaTarget.Typed .vmem (.dma sR) (.remote (Dev.tc n : Thread nD τ) dst (.dma sS) hsc)} {α : Type} {Q : α → sProp 𝕄}
    {p : PUnit → Prog (TpuEff nD τ sig (Elt F) Λ₀ .tc) α} :
    iprop(records m ρ K ∗ sndSt m ρ c k)
      ⊢ iprop(((records m ρ K ∗ sndSt m ρ c (k + 1)) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) p) Q) := by
  subst hn hS hR hsr hds
  unfold sndSt owesAny
  rw [bigSep_Ico_succ_bot hk, bigSep_Ico_succ_top h1]
  unfold sendPay barPay bufPts
  iintro ⟨#HR, ⟨%W, HO⟩, ⟨⟨HtS, HtR, Hsrc, ⟨%f, Hdst⟩⟩, Hrest⟩, Hcr⟩ Hk
  ihave HI := (records_at m ρ K (kcell_send c hk)) $$ HR
  icases HI with ⟨HI1, Hr1⟩
  ihave HI := (records_at m ρ K (kcell_recv (shift c k) (show 16 - k < 16 by omega))) $$ HR
  icases HI with ⟨HI2, Hr2⟩
  iapply (Rounds.wp_send_pointsTo 𝒱₀ ER (sched m ρ) (c : Thread nD τ) none (κ₁ := K (c, iS k)) (κ₂ := K (shift c k, iR (16 - k)))
      (c' := (shift c k : Thread nD τ)) (src := slotM 0 z16) (dst := slotM (16 - k) (sub16 h1)) (q := shareTokN fullShare k) (fs := blocks m ρ c)
      (r₁ := 0) (r₂ := 0) (d₁ := 0) (d₂ := 0) (fd := f)
      (by rw [duties_send m ρ c h1 hk]; exact Finset.mem_singleton_self _)
      (by rw [duties_recv m ρ (shift c k) (show 1 ≤ 16 - k by omega) (by omega)]; exact Finset.mem_singleton_self _)
      () () N rfl (amount_send m ρ c k 0) (amount_recv m ρ (shift c k) (16 - k) 0) (owedRecv c (k + 1)) (owedRecv_step c hk) (W := W)
      (by rw [payload_send m ρ c hk]; unfold sendPay bufPts; rw [slotM_set])
      (by
        rw [payload_recv m ρ (shift c k) (show 16 - k < 16 by omega)]; unfold recvPay bufPts; rw [slotM_set]
        exact Entails.of_eq (pointsTo_congr (landed_slot m ρ c h1 hk f))))
    $$ [HI1 Hr1 HI2 Hr2 HtS HtR Hsrc Hdst HO]
  · isplitl [HI1]; · iexact HI1
    isplitl [HI2]; · iexact HI2
    isplitl [Hsrc]; · rw [slotM_set]; iexact Hsrc
    isplitl [Hdst]; · rw [slotM_set]; iexact Hdst
    isplitl [HO]; · iexact HO
    isplitl [HtS]; · iexact HtS
    isplitl [Hr1]; · iexact Hr1
    isplitl [HtR]; · iexact HtR
    iexact Hr2
  iintro ⟨Hc, HO⟩
  iapply Hk
  isplitr; · iexact HR
  isplitl [HO]; · iexists W; iexact HO
  isplitl [Hrest]; · iexact Hrest
  isplitl [Hc]; · iexact Hc
  iexact Hcr

/-! ## One wait for a block, and one for a copy of its own -/

/-- Before the wait for slot `s`: the rights to the waits `s … 15`, and what the earlier ones gave. -/
def rcvSt (c : Dev nD) (s : ℕ) : sProp 𝕄 :=
  iprop(owesAny c 0
    ∗ (bigSep (Finset.Ico s 16) fun j => iprop(atPos ER (recvC c j) 0 ∅ 0 ∗ cred (tallyAt (recvC c j) () N)))
    ∗ bigSep (Finset.Ico 1 s) fun j => iprop(recvPay m ρ c j ∗ semVal (recvC c j) 0))

/-- Before the wait for the own copy `k`: the rights to the waits `k … 15`, and what the earlier ones gave. -/
def bckSt (c : Dev nD) (k : ℕ) : sProp 𝕄 :=
  iprop(owesAny c 0
    ∗ (bigSep (Finset.Ico k 16) fun j => iprop(atPos ER (sendC c j) 0 ∅ 0 ∗ cred (tallyAt (sendC c j) () N)))
    ∗ bigSep (Finset.Ico 1 k) fun j => iprop(sendPay m ρ c j ∗ semVal (sendC c j) 0))

/-- A wait that empties a cell of one payment: it hands over the payment and leaves the cell closed, at zero. -/
theorem wait_close (K : Dev nD × Fin 33 → ℕ) (c : Dev nD) (q : DmaSem sig) {i : Fin 33} (hi : kcell (c, i) = ((c : Thread nD τ), .dma q)) (P : sProp 𝕄)
    (he : (sched (F := F) m ρ).expect ((c : Thread nD τ), .dma q) 0 = N)
    (hp : bigSep ((sched (F := F) m ρ).duties ((c : Thread nD τ), .dma q) 0 \ ∅) (fun d => (sched (F := F) m ρ).payload ((c : Thread nD τ), .dma q) 0 d) = P)
    {src dst : Memref sig .tc .vmem S48x512 .bf16} {s : ℕ} {hs : s < 16} (hds : dst = slotM s hs)
    {hsrc : src.view.WordExact} {hdst : dst.view.WordExact} {α : Type} {Q : α → sProp 𝕄}
    {p : PUnit → Prog (TpuEff nD τ sig (Elt F) Λ₀ .tc) α} :
    iprop(records m ρ K ∗ owesAny c 0 ∗ atPos ER ((c : Thread nD τ), .dma q) 0 ∅ 0 ∗ cred (tallyAt ((c : Thread nD τ), .dma q) () N))
      ⊢ iprop(((owesAny c 0 ∗ P ∗ semVal ((c : Thread nD τ), .dma q) 0)
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 q src dst hsrc hdst) p) Q) := by
  subst hds hp
  unfold owesAny
  iintro ⟨#HR, ⟨%W, HO⟩, Hat, Hc⟩ Hk
  ihave HI := (records_at m ρ K hi) $$ HR
  icases HI with ⟨#HI, Hr⟩
  iapply (Rounds.wp_wait_rest_token 𝒱₀ ER (sched m ρ) (c : Thread nD τ) none (κ := K (c, i))
      (wpE_waitDma2_eq 𝒱₀ (c : Thread nD τ) none Set.univ) (Set.mem_univ _) () (O := 0) (W := W) (R := 0) (m := 0) (T := ∅)
      (by rw [Nat.zero_add, he])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (sched m ρ) (Set.mem_univ (K (c, i))) (fun h => h) (R := 0 + 1)
      (duties_later m ρ ((c : Thread nD τ), .dma q))) $$ [Hat] with Hz
  · isplitr; · iexact HI
    iexact Hat
  iapply Hk
  isplitl [HO]; · iexists _; iexact HO
  isplitl [Hpay]; · iexact Hpay
  iexact Hz

theorem step_recv (K : Dev nD × Fin 33 → ℕ) (c : Dev nD) (k : ℕ) (h1 : 1 ≤ k) (hk : k < 16) {q : DmaSem sig} (hq : q = recvS k)
    {src dst : Memref sig .tc .vmem S48x512 .bf16} {s : ℕ} {hs : s < 16} (hds : dst = slotM s hs)
    {hsrc : src.view.WordExact} {hdst : dst.view.WordExact} {α : Type} {Q : α → sProp 𝕄}
    {p : PUnit → Prog (TpuEff nD τ sig (Elt F) Λ₀ .tc) α} :
    iprop(records m ρ K ∗ rcvSt m ρ c k)
      ⊢ iprop(((records m ρ K ∗ rcvSt m ρ c (k + 1)) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 q src dst hsrc hdst) p) Q) := by
  subst hq
  unfold rcvSt
  rw [bigSep_Ico_succ_bot hk, bigSep_Ico_succ_top h1]
  iintro ⟨#HR, HO, ⟨⟨Hat, Hc⟩, Hrest⟩, Hdone⟩ Hk
  iapply (wait_close m ρ K c (recvS k) (kcell_recv c hk) _ (expect_recv m ρ c h1 hk) (rest_recv m ρ c h1 hk) hds) $$ [HO Hat Hc]
  · isplitr; · iexact HR
    isplitl [HO]; · iexact HO
    isplitl [Hat] <;> iassumption
  iintro ⟨HO, Hp, Hz⟩
  iapply Hk
  isplitr; · iexact HR
  isplitl [HO]; · iexact HO
  isplitl [Hrest]; · iexact Hrest
  isplitl [Hp Hz]
  · isplitl [Hp] <;> iassumption
  iexact Hdone

theorem step_back (K : Dev nD × Fin 33 → ℕ) (c : Dev nD) (k : ℕ) (h1 : 1 ≤ k) (hk : k < 16) {q : DmaSem sig} (hq : q = sendS k)
    {src dst : Memref sig .tc .vmem S48x512 .bf16} {s : ℕ} {hs : s < 16} (hds : dst = slotM s hs)
    {hsrc : src.view.WordExact} {hdst : dst.view.WordExact} {α : Type} {Q : α → sProp 𝕄}
    {p : PUnit → Prog (TpuEff nD τ sig (Elt F) Λ₀ .tc) α} :
    iprop(records m ρ K ∗ bckSt m ρ c k)
      ⊢ iprop(((records m ρ K ∗ bckSt m ρ c (k + 1)) -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 q src dst hsrc hdst) p) Q) := by
  subst hq
  unfold bckSt
  rw [bigSep_Ico_succ_bot hk, bigSep_Ico_succ_top h1]
  iintro ⟨#HR, HO, ⟨⟨Hat, Hc⟩, Hrest⟩, Hdone⟩ Hk
  iapply (wait_close m ρ K c (sendS k) (kcell_send c hk) _ (expect_send m ρ c h1 hk) (rest_send m ρ c h1 hk) hds) $$ [HO Hat Hc]
  · isplitr; · iexact HR
    isplitl [HO]; · iexact HO
    isplitl [Hat] <;> iassumption
  iintro ⟨HO, Hp, Hz⟩
  iapply Hk
  isplitr; · iexact HR
  isplitl [HO]; · iexact HO
  isplitl [Hrest]; · iexact Hrest
  isplitl [Hp Hz]
  · isplitl [Hp] <;> iassumption
  iexact Hdone

/-! ## The buffer of blocks cut into its slots and put together again -/

omit [FloatOps F] in
/-- The whole buffer is slot `0` and the slots `1 … 15`, at any share. -/
theorem buf_slots (c : Dev nD) (q : PosShare TreeShare) (f : Buf (Elt F) (bufL c)) :
    bufPts (F := F) c Finset.univ q f ⊣⊢ iprop(bufPts c (slotSet 0) q f ∗ bigSep (Finset.Ico 1 16) fun s => bufPts c (slotSet s) q f) := by
  have h : bufPts (F := F) c restSet q f = bigSep (Finset.Ico 1 16) fun s => bufPts c (slotSet s) q f := by
    unfold bufPts
    rw [← restSet_eq]
    exact pointsTo_biUnion _ _ fun s _ t _ h => slotSet_disjoint h
  rw [← h]
  exact pointsTo_split_subset (Finset.subset_univ _)

/-- The share of slot `0` kept back from the copies. -/
abbrev kept : PosShare TreeShare := shareDrop fullShare 16

omit [FloatOps F] in
/-- Part of the buffer at the full share is the share kept back, a token, and the fifteen tokens of the copies. -/
theorem buf_tokens (c : Dev nD) (S : Finset ((cc0_scratch0 : Ref sig .tc).ty.shape.Idx)) (f : Buf (Elt F) (bufL c)) :
    bufPts (F := F) c S fullShare f ⊣⊢ iprop(bufPts c S kept f ∗ bufPts c S (shareTokN fullShare 0) f
      ∗ bigSep (Finset.Ico 1 16) fun j => bufPts c S (shareTokN fullShare j) f) := by
  have h : (bigSep (Finset.range 16) fun j => bufPts (F := F) c S (shareTokN fullShare j) f)
      = iprop(bufPts c S (shareTokN fullShare 0) f ∗ bigSep (Finset.Ico 1 16) fun j => bufPts c S (shareTokN fullShare j) f) := by
    rw [Finset.range_eq_Ico, bigSep_Ico_succ_bot (by decide)]
  rw [← h]
  exact pointsTo_toks_range fullShare 16

end Cert.KernelIdeal.Moe

end
-- ==== Proof.Body.lean ====
/-
The program of one device, executed once for a symbolic device: its signals, its block, its copies, its waits, its result.
-/
module

public import proofs.«01_k».proof.Proof.Steps

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTokN pointsTo_toks_range)

variable {F : FTy → Type} [FloatOps F]

local notation "𝕄" => MT nD τ sig Unit (Elt F) ℕ UU ℕ

variable (m : (ℓ : Loc nD τ sig) → Buf (Elt F) ℓ) (ρ : Dev nD → PrngReg)

/-! ## What a device's body starts from and ends with -/

/-- The ghost state of device `c`: all records; its positions at the start of its cells; the payments it makes. -/
def ghost (K : Dev nD × Fin 33 → ℕ) (c : Dev nD) : sProp 𝕄 :=
  iprop(records m ρ K
    ∗ atPos ER (barC c) 0 ∅ 0
    ∗ (bigSep (Finset.range 16) fun j => atPos ER (sendC c j) 0 ∅ 0)
    ∗ (bigSep (Finset.range 16) fun j => atPos ER (recvC c j) 0 ∅ 0)
    ∗ (bigSep (Finset.Ico 1 16) fun j => dutyTok ER (barC (shift c j)) 0 (16 - j))
    ∗ (bigSep (Finset.Ico 1 16) fun j => dutyTok ER (sendC c j) 0 0)
    ∗ (bigSep (Finset.Ico 1 16) fun j => dutyTok ER (recvC (shift c j) (16 - j)) 0 0))

/-- The credit of the signals and blocks that device `c` will be sent. -/
def credits (c : Dev nD) : sProp 𝕄 :=
  iprop(cred (tallyAt (barC c) () 15) ∗ bigSep (Finset.Ico 1 16) fun j => cred (tallyAt (recvC c j) () N))

def start (c : Dev nD) : sProp 𝕄 := iprop((∃ K, ghost m ρ K c) ∗ credits c ∗ levAts L lv)

def Φ₀ (c : Dev nD) : sProp 𝕄 := iprop(start m ρ c ∗ ∃ f, bufPts c Finset.univ fullShare f)
/-- At the end: the buffer of blocks at some contents, and every cell of the device closed at zero. -/
def Φ₁ (c : Dev nD) : sProp 𝕄 :=
  iprop((∃ f, bufPts (F := F) c Finset.univ fullShare f) ∗ semVal (barC c) 0
    ∗ (bigSep (Finset.range 16) fun j => semVal (sendC c j) 0) ∗ bigSep (Finset.range 16) fun j => semVal (recvC c j) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => istg m ρ c
    | ⟨3, _⟩ => wstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => owedBar c 1
    | ⟨_ + 1, _⟩ => 0

theorem fetch_in : ∀ w : Fin 5, w.val < 4 → (cfg0.win w).fetch t0_0 = true
  | ⟨0, _⟩, _ => rfl
  | ⟨1, _⟩, _ => rfl
  | ⟨2, _⟩, _ => rfl
  | ⟨3, _⟩, _ => rfl
  | ⟨n + 4, _⟩, h => absurd h (Nat.not_lt.2 (Nat.le_add_left _ _))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Reading and writing whole buffers -/

omit [FloatOps F] in
theorem hz : (![0, 0] : Fin 2 → Nat) = fun _ => 0 := funext fun a => by fin_cases a <;> rfl
omit [FloatOps F] in
theorem read_idx (f : (cc0_stg2_0 : Ref sig .tc).ty.Contents (Elt F)) :
    (Memref.whole cc0_stg2_0 : Memref sig .tc .vmem S1024x1 .i32).view.readAt (Elt F) (Rect.unit (s := S1024x1) ![0, 0] S1024x1.size inb_S1024x1_S1024x1_0_0).toLoadRect f = f :=
  Memref.readAt_unit_zero (Elt F) cc0_stg2_0 hz _ f
omit [FloatOps F] in
theorem read_x (f : (cc0_stg0_0 : Ref sig .tc).ty.Contents (Elt F)) :
    (Memref.whole cc0_stg0_0 : Memref sig .tc .vmem S1024x256 .bf16).view.readAt (Elt F) (Rect.unit (s := S1024x256) ![0, 0] S1024x256.size inb_S1024x256_S1024x256_0_0).toLoadRect f = f :=
  Memref.readAt_unit_zero (Elt F) cc0_stg0_0 hz _ f
omit [FloatOps F] in
theorem read_buf (f : (cc0_scratch0 : Ref sig .tc).ty.Contents (Elt F)) :
    (Memref.whole cc0_scratch0 : Memref sig .tc .vmem S768x512 .bf16).view.readAt (Elt F) (Rect.unit (s := S768x512) ![0, 0] S768x512.size inb_S768x512_S768x512_0_0).toLoadRect f = f :=
  Memref.readAt_unit_zero (Elt F) cc0_scratch0 hz _ f
omit [FloatOps F] in
theorem write_out (f w : (cc0_stg4_0 : Ref sig .tc).ty.Contents (Elt F)) :
    ((Memref.whole cc0_stg4_0 : Memref sig .tc .vmem S1024x512 .bf16).access (Rect.unit (s := S1024x512) ![0, 0] S1024x512.size inb_S1024x512_S1024x512_0_0) : View sig .tc _ _ _).write (Elt F) f w Finset.univ = w :=
  Memref.write_access_unit_zero_univ (Elt F) cc0_stg4_0 hz _ f w

/-! ## The body -/

section Body

variable (K : Dev nD × Fin 33 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ credits c ∗ levAts L lv ∗ ∃ f, bufPts c Finset.univ fullShare f)
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ (F := F) c ∗ (dats m ρ 0 c).owesAt () t0_0.succ ∗ stg c cc0_stg0_0 (xstg m ρ c) ∗ stg c cc0_stg1_0 (rstg m ρ c)
    ∗ stg c cc0_stg2_0 (istg m ρ c) ∗ stg c cc0_stg3_0 (wstg m ρ c) ∗ stg c cc0_stg4_0 (outAt m ρ c))

/-- The slots `1 … 15` at the full share are the same slots at the share kept back, and their tokens. -/
theorem rest_tokens (c : Dev nD) :
    (bigSep (Finset.Ico 1 16) fun s => bufPts c (slotSet s) fullShare (blocks m ρ c))
      ⊣⊢ iprop((bigSep (Finset.Ico 1 16) fun s => bufPts c (slotSet s) kept (blocks m ρ c))
        ∗ bigSep (Finset.Ico 1 16) fun s => bigSep (Finset.range 16) fun j => bufPts c (slotSet s) (shareTokN fullShare j) (blocks m ρ c)) := by
  rw [← bigSep_sep']
  exact ⟨bigSep_mono fun s _ => (pointsTo_toks_range fullShare 16).1, bigSep_mono fun s _ => (pointsTo_toks_range fullShare 16).2⟩

omit [FloatOps F] in
theorem range_split (A : ℕ → sProp 𝕄) : bigSep (Finset.range 16) A = iprop(A 0 ∗ bigSep (Finset.Ico 1 16) A) := by
  rw [Finset.range_eq_Ico, bigSep_Ico_succ_bot (by decide)]

theorem rcv_end (c : Dev nD) : rcvSt m ρ c (15 + 1) ⊢ iprop(owesAny (F := F) c 0 ∗ (bigSep (Finset.Ico 1 16) fun j => recvPay m ρ c j)
    ∗ bigSep (Finset.Ico 1 16) fun j => semVal (recvC c j) 0) := by
  unfold rcvSt
  iintro ⟨HO, -, H⟩
  ihave H := (Entails.of_eq (bigSep_sep' _ _ _)) $$ H
  icases H with ⟨H1, H2⟩
  isplitl [HO]; · iexact HO
  isplitl [H1] <;> iassumption
theorem bck_end (c : Dev nD) : bckSt m ρ c (15 + 1) ⊢ iprop(owesAny (F := F) c 0 ∗ (bigSep (Finset.Ico 1 16) fun j => sendPay m ρ c j)
    ∗ bigSep (Finset.Ico 1 16) fun j => semVal (sendC c j) 0) := by
  unfold bckSt
  iintro ⟨HO, -, H⟩
  ihave H := (Entails.of_eq (bigSep_sep' _ _ _)) $$ H
  icases H with ⟨H1, H2⟩
  isplitl [HO]; · iexact HO
  isplitl [H1] <;> iassumption

omit [FloatOps F] in
theorem buf_whole (c : Dev nD) (q : PosShare TreeShare) (f : Buf (Elt F) (bufL c)) :
    ((Memref.whole cc0_scratch0 : Memref sig .tc .vmem S768x512 .bf16).view.loc (c : Thread nD τ) ↦{q} f : sProp 𝕄) ⊣⊢ bufPts c Finset.univ q f :=
  ⟨BI.Entails.refl _, BI.Entails.refl _⟩

/-- After the store of the block, slot `0` holds what the buffer of blocks will hold there at the end. -/
theorem stored_pts (c : Dev nD) (f : Buf (Elt F) (bufL c)) (w : Vec F S48x512 .bf16) :
    (((Memref.whole cc0_scratch0 : Memref sig .tc .vmem S768x512 .bf16).access
        (Rect.unit (s := S768x512) ![0, 0] S48x512.size inb_S768x512_S48x512_0_0)).loc (c : Thread nD τ) ↦[slotSet 0]{fullShare}
      (((Memref.whole cc0_scratch0 : Memref sig .tc .vmem S768x512 .bf16).access
        (Rect.unit (s := S768x512) ![0, 0] S48x512.size inb_S768x512_S48x512_0_0)).write (Elt F) f w Finset.univ) : sProp 𝕄)
      ⊢ iprop(⌜w = block m ρ c⌝ -∗ bufPts c (slotSet 0) fullShare (blocks m ρ c)) := by
  iintro H %hw
  subst hw
  ihave H := (show _ ⊢ bufPts c (slotSet 0) fullShare (blocks m ρ c) from Entails.of_eq (pointsTo_congr (stored_slot m ρ c f))) $$ H
  iexact H

/-! The devices addressed, as the kernel computes them. -/

theorem dev1 (c : Dev nD) : (⟨k0_dev1 c, k0_dev1_lt c⟩ : Dev nD) = shift c 1 := by revert c; decide +kernel
theorem dev2 (c : Dev nD) : (⟨k0_dev2 c, k0_dev2_lt c⟩ : Dev nD) = shift c 2 := by revert c; decide +kernel
theorem dev3 (c : Dev nD) : (⟨k0_dev3 c, k0_dev3_lt c⟩ : Dev nD) = shift c 3 := by revert c; decide +kernel
theorem dev4 (c : Dev nD) : (⟨k0_dev4 c, k0_dev4_lt c⟩ : Dev nD) = shift c 4 := by revert c; decide +kernel
theorem dev5 (c : Dev nD) : (⟨k0_dev5 c, k0_dev5_lt c⟩ : Dev nD) = shift c 5 := by revert c; decide +kernel
theorem dev6 (c : Dev nD) : (⟨k0_dev6 c, k0_dev6_lt c⟩ : Dev nD) = shift c 6 := by revert c; decide +kernel
theorem dev7 (c : Dev nD) : (⟨k0_dev7 c, k0_dev7_lt c⟩ : Dev nD) = shift c 7 := by revert c; decide +kernel
theorem dev8 (c : Dev nD) : (⟨k0_dev8 c, k0_dev8_lt c⟩ : Dev nD) = shift c 8 := by revert c; decide +kernel
theorem dev9 (c : Dev nD) : (⟨k0_dev9 c, k0_dev9_lt c⟩ : Dev nD) = shift c 9 := by revert c; decide +kernel
theorem dev10 (c : Dev nD) : (⟨k0_dev10 c, k0_dev10_lt c⟩ : Dev nD) = shift c 10 := by revert c; decide +kernel
theorem dev11 (c : Dev nD) : (⟨k0_dev11 c, k0_dev11_lt c⟩ : Dev nD) = shift c 11 := by revert c; decide +kernel
theorem dev12 (c : Dev nD) : (⟨k0_dev12 c, k0_dev12_lt c⟩ : Dev nD) = shift c 12 := by revert c; decide +kernel
theorem dev13 (c : Dev nD) : (⟨k0_dev13 c, k0_dev13_lt c⟩ : Dev nD) = shift c 13 := by revert c; decide +kernel
theorem dev14 (c : Dev nD) : (⟨k0_dev14 c, k0_dev14_lt c⟩ : Dev nD) = shift c 14 := by revert c; decide +kernel
theorem dev15 (c : Dev nD) : (⟨k0_dev15 c, k0_dev15_lt c⟩ : Dev nD) = shift c 15 := by revert c; decide +kernel
theorem dev16 (c : Dev nD) : (⟨k0_dev16 c, k0_dev16_lt c⟩ : Dev nD) = shift c 1 := by revert c; decide +kernel
theorem dev17 (c : Dev nD) : (⟨k0_dev17 c, k0_dev17_lt c⟩ : Dev nD) = shift c 2 := by revert c; decide +kernel
theorem dev18 (c : Dev nD) : (⟨k0_dev18 c, k0_dev18_lt c⟩ : Dev nD) = shift c 3 := by revert c; decide +kernel
theorem dev19 (c : Dev nD) : (⟨k0_dev19 c, k0_dev19_lt c⟩ : Dev nD) = shift c 4 := by revert c; decide +kernel
theorem dev20 (c : Dev nD) : (⟨k0_dev20 c, k0_dev20_lt c⟩ : Dev nD) = shift c 5 := by revert c; decide +kernel
theorem dev21 (c : Dev nD) : (⟨k0_dev21 c, k0_dev21_lt c⟩ : Dev nD) = shift c 6 := by revert c; decide +kernel
theorem dev22 (c : Dev nD) : (⟨k0_dev22 c, k0_dev22_lt c⟩ : Dev nD) = shift c 7 := by revert c; decide +kernel
theorem dev23 (c : Dev nD) : (⟨k0_dev23 c, k0_dev23_lt c⟩ : Dev nD) = shift c 8 := by revert c; decide +kernel
theorem dev24 (c : Dev nD) : (⟨k0_dev24 c, k0_dev24_lt c⟩ : Dev nD) = shift c 9 := by revert c; decide +kernel
theorem dev25 (c : Dev nD) : (⟨k0_dev25 c, k0_dev25_lt c⟩ : Dev nD) = shift c 10 := by revert c; decide +kernel
theorem dev26 (c : Dev nD) : (⟨k0_dev26 c, k0_dev26_lt c⟩ : Dev nD) = shift c 11 := by revert c; decide +kernel
theorem dev27 (c : Dev nD) : (⟨k0_dev27 c, k0_dev27_lt c⟩ : Dev nD) = shift c 12 := by revert c; decide +kernel
theorem dev28 (c : Dev nD) : (⟨k0_dev28 c, k0_dev28_lt c⟩ : Dev nD) = shift c 13 := by revert c; decide +kernel
theorem dev29 (c : Dev nD) : (⟨k0_dev29 c, k0_dev29_lt c⟩ : Dev nD) = shift c 14 := by revert c; decide +kernel
theorem dev30 (c : Dev nD) : (⟨k0_dev30 c, k0_dev30_lt c⟩ : Dev nD) = shift c 15 := by revert c; decide +kernel

set_option maxHeartbeats 4000000 in
/-- The program of device `c` runs from its starting state to its final one: it never gets stuck, it pays and collects
    exactly what the schedule says, and it leaves `outAt` in the result's staging buffer. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) cc0_scratch1 cc0_scratch2) Kt := by
  simp only [cc0_body_eq_skeleton, cc0_body_skel, k0_part24_eq_skeleton, k0_part24_skel, k0_part1_eq_skeleton, k0_part1_skel,
    k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel,
    k0_part8_eq_skeleton, k0_part8_skel, k0_part9_eq_skeleton, k0_part9_skel, k0_part10_eq_skeleton, k0_part10_skel,
    k0_part11_eq_skeleton, k0_part11_skel, k0_part12_eq_skeleton, k0_part12_skel, k0_part13_eq_skeleton, k0_part13_skel,
    k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel,
    k0_part20_eq_skeleton, k0_part20_skel, k0_part21_eq_skeleton, k0_part21_skel, k0_part22_eq_skeleton, k0_part22_skel,
    k0_part23_eq_skeleton, k0_part23_skel,
    semSignalWord, semWaitWord, Prog.lift, Prog.bind_op, Prog.bind_ret, Prog.pure_eq_ret, wp_deviceId]
  unfold bodyPre ghost credits
  iintro ⟨⟨⟨⟨#HR, HatB, HatS, HatR, HtB, HtS, HtR⟩, ⟨HcB, HcR⟩, #Hlev, ⟨%f0, Hbuf⟩⟩,
    Ho, ⟨%d0, %g0, %hg0, Hx⟩, ⟨%d1, %g1, %hg1, Hr⟩, ⟨%d2, %g2, %hg2, Hi⟩, ⟨%d3, %g3, %hg3, Hw⟩, ⟨%d4, %g4, %hg4, Hout⟩⟩, Hk⟩
  have hx : g0 = xstg m ρ c := by rw [hg0]; unfold Dat.before; rw [if_pos (fetch_in 0 (by decide))]; rfl
  have hr : g1 = rstg m ρ c := by rw [hg1]; unfold Dat.before; rw [if_pos (fetch_in 1 (by decide))]; rfl
  have hi : g2 = istg m ρ c := by rw [hg2]; unfold Dat.before; rw [if_pos (fetch_in 2 (by decide))]; rfl
  have hw : g3 = wstg m ρ c := by rw [hg3]; unfold Dat.before; rw [if_pos (fetch_in 3 (by decide))]; rfl
  subst hx hr hi hw
  unfold Dat.owesAt Pipeline.owesWithin
  icases Ho with ⟨%W, %hW, HO⟩
  rw [show (dats m ρ 0 c).owed t0_0.castSucc = owedBar c 1 from rfl]
  -- the buffer of blocks by slots; the signals hand over slots 1 … 15
  ihave Hb := (buf_slots c fullShare f0).1 $$ Hbuf
  icases Hb with ⟨Hb0, Hbs⟩
  ihave HS := (show iprop(records m ρ K ∗ owes (c : Thread nD τ) (owedBar c 1) W
      ∗ (bigSep (Finset.Ico 1 16) fun j => dutyTok ER (barC (shift c j)) 0 (16 - j))
      ∗ bigSep (Finset.Ico 1 16) fun j => bufPts c (slotSet j) fullShare f0) ⊢ iprop(records m ρ K ∗ sigSt c f0 1) by
    unfold sigSt owesAny
    rw [bigSep_sep']
    iintro ⟨HR, HO, H1, H2⟩
    isplitl [HR]; · iexact HR
    isplitl [HO]; · iexists W; iexact HO
    isplitl [H1] <;> iassumption) $$ [HO HtB Hbs]
  · isplitr; · iexact HR
    isplitl [HO]; · iexact HO
    isplitl [HtB] <;> iassumption
  iapply (step_signal m ρ K c f0 1 (by decide) (by decide) (dev1 c) (by decide) rfl) $$ HS; iintro HS
  iapply (step_signal m ρ K c f0 2 (by decide) (by decide) (dev2 c) (by decide) rfl) $$ HS; iintro HS
  iapply (step_signal m ρ K c f0 3 (by decide) (by decide) (dev3 c) (by decide) rfl) $$ HS; iintro HS
  iapply (step_signal m ρ K c f0 4 (by decide) (by decide) (dev4 c) (by decide) rfl) $$ HS; iintro HS
  iapply (step_signal m ρ K c f0 5 (by decide) (by decide) (dev5 c) (by decide) rfl) $$ HS; iintro HS
  iapply (step_signal m ρ K c f0 6 (by decide) (by decide) (dev6 c) (by decide) rfl) $$ HS; iintro HS
  iapply (step_signal m ρ K c f0 7 (by decide) (by decide) (dev7 c) (by decide) rfl) $$ HS; iintro HS
  iapply (step_signal m ρ K c f0 8 (by decide) (by decide) (dev8 c) (by decide) rfl) $$ HS; iintro HS
  iapply (step_signal m ρ K c f0 9 (by decide) (by decide) (dev9 c) (by decide) rfl) $$ HS; iintro HS
  iapply (step_signal m ρ K c f0 10 (by decide) (by decide) (dev10 c) (by decide) rfl) $$ HS; iintro HS
  iapply (step_signal m ρ K c f0 11 (by decide) (by decide) (dev11 c) (by decide) rfl) $$ HS; iintro HS
  iapply (step_signal m ρ K c f0 12 (by decide) (by decide) (dev12 c) (by decide) rfl) $$ HS; iintro HS
  iapply (step_signal m ρ K c f0 13 (by decide) (by decide) (dev13 c) (by decide) rfl) $$ HS; iintro HS
  iapply (step_signal m ρ K c f0 14 (by decide) (by decide) (dev14 c) (by decide) rfl) $$ HS; iintro HS
  iapply (step_signal m ρ K c f0 15 (by decide) (by decide) (dev15 c) (by decide) rfl) $$ HS; iintro HS
  -- the loads of the inputs, and the block stored to slot 0
  iapply (wp_load 𝒱₀ (c : Thread nD τ) none Set.univ (m := Memref.whole cc0_stg2_0) (Finset.subset_univ _)) $$ Hi; iintro Hi
  rw [read_idx]
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg3_0) (Finset.subset_univ _)) $$ Hw; iintro Hw
  iapply (wp_load 𝒱₀ (c : Thread nD τ) none Set.univ (m := Memref.whole cc0_stg3_0) (Finset.subset_univ _)) $$ Hw; iintro Hw
  iapply (wp_load 𝒱₀ (c : Thread nD τ) none Set.univ (m := Memref.whole cc0_stg3_0) (Finset.subset_univ _)) $$ Hw; iintro Hw
  iapply (wp_load 𝒱₀ (c : Thread nD τ) none Set.univ (m := Memref.whole cc0_stg3_0) (Finset.subset_univ _)) $$ Hw; iintro Hw
  unfold bufPts
  iapply (wp_load_rect 𝒱₀ (c : Thread nD τ) none Set.univ (m := (Memref.whole cc0_scratch0 : Memref sig .tc .vmem S768x512 .bf16))
    (r := Rect.unit (s := S768x512) ![0, 0] S48x512.size inb_S768x512_S48x512_0_0) (S := slotSet 0)
    (subset_of_eq (slotM_set 0 z16))) $$ Hb0; iintro Hb0
  iapply (wp_store 𝒱₀ (c : Thread nD τ) none Set.univ (m := (Memref.whole cc0_scratch0 : Memref sig .tc .vmem S768x512 .bf16))
    (r := Rect.unit (s := S768x512) ![0, 0] S48x512.size inb_S768x512_S48x512_0_0) (Mk := Finset.univ) (S := slotSet 0)
    (subset_of_eq (slotM_set 0 z16))) $$ Hb0; iintro Hb0
  ihave Hb0 := (stored_pts m ρ c f0 _) $$ Hb0 []
  · ipureintro; rfl
  ihave Hb0 := (buf_tokens c (slotSet 0) (blocks m ρ c)).1 $$ Hb0
  icases Hb0 with ⟨Hkept, Htok0, Htoks⟩
  -- the wait on the barrier: every other device's slot for this device's block
  unfold sigSt owesAny
  icases HS with ⟨-, ⟨%W1, HO⟩, -⟩
  rw [owedBar_end]
  ihave HI := (records_at m ρ K (kcell_bar c)) $$ HR
  icases HI with ⟨#HIB, -⟩
  iapply (Rounds.wp_wait_rest_token 𝒱₀ ER (sched m ρ) (c : Thread nD τ) none (κ := K (c, 0))
      (wpE_semWait_eq 𝒱₀ (c : Thread nD τ) none Set.univ) (Set.mem_univ _) () (O := owedRecv c 1) (W := W1) (R := 0) (m := 0) (T := ∅)
      (by rw [expect_bar]; decide)) $$ [HcB HO HatB]
  · isplitr; · iexact HIB
    isplitl [HcB]; · iexact HcB
    isplitl [HO]; · iexact HO
    isplitr; · iapply (mayWait_bar c); iexact Hlev
    iexact HatB
  iintro ⟨HO, HatB, -, Hpay⟩
  ihave Hpay := (Entails.of_eq (rest_bar m ρ c)) $$ Hpay
  imod (Rounds.cell_close ER (sched m ρ) (Set.mem_univ (K (c, 0))) (fun h => h) (R := 0 + 1) (duties_later m ρ (barC c))) $$ [HatB] with HzB
  · isplitr; · iexact HIB
    iexact HatB
  -- the fifteen copies
  ihave HS := (show iprop(records m ρ K ∗ owes (c : Thread nD τ) (owedRecv c 1) (insert (SemLoc.reg barS, ()) W1)
      ∗ (bigSep (Finset.Ico 1 16) fun j => dutyTok ER (sendC c j) 0 0)
      ∗ (bigSep (Finset.Ico 1 16) fun j => dutyTok ER (recvC (shift c j) (16 - j)) 0 0)
      ∗ (bigSep (Finset.Ico 1 16) fun j => bufPts c (slotSet 0) (shareTokN fullShare j) (blocks m ρ c))
      ∗ bigSep (Finset.Ico 1 16) fun j => barPay c j) ⊢ iprop(records m ρ K ∗ sndSt m ρ c 1) by
    unfold sndSt owesAny
    rw [bigSep_sep', bigSep_sep', bigSep_sep', Finset.Ico_self, bigSep_empty]
    unfold sendPay
    iintro ⟨HR, HO, H1, H2, H3, H4⟩
    isplitl [HR]; · iexact HR
    isplitl [HO]; · iexists _; iexact HO
    isplitl [H1 H2 H3 H4]
    · isplitl [H1]; · iexact H1
      isplitl [H2]; · iexact H2
      isplitl [H3] <;> iassumption
    · iempintro) $$ [HO HtS HtR Htoks Hpay]
  · isplitr; · iexact HR
    isplitl [HO]; · iexact HO
    isplitl [HtS]; · iexact HtS
    isplitl [HtR]; · iexact HtR
    isplitl [Htoks] <;> iassumption
  iapply (step_send m ρ K c 1 (by decide) (by decide) (dev16 c) rfl rfl rfl rfl) $$ HS; iintro HS
  iapply (step_send m ρ K c 2 (by decide) (by decide) (dev17 c) rfl rfl rfl rfl) $$ HS; iintro HS
  iapply (step_send m ρ K c 3 (by decide) (by decide) (dev18 c) rfl rfl rfl rfl) $$ HS; iintro HS
  iapply (step_send m ρ K c 4 (by decide) (by decide) (dev19 c) rfl rfl rfl rfl) $$ HS; iintro HS
  iapply (step_send m ρ K c 5 (by decide) (by decide) (dev20 c) rfl rfl rfl rfl) $$ HS; iintro HS
  iapply (step_send m ρ K c 6 (by decide) (by decide) (dev21 c) rfl rfl rfl rfl) $$ HS; iintro HS
  iapply (step_send m ρ K c 7 (by decide) (by decide) (dev22 c) rfl rfl rfl rfl) $$ HS; iintro HS
  iapply (step_send m ρ K c 8 (by decide) (by decide) (dev23 c) rfl rfl rfl rfl) $$ HS; iintro HS
  iapply (step_send m ρ K c 9 (by decide) (by decide) (dev24 c) rfl rfl rfl rfl) $$ HS; iintro HS
  iapply (step_send m ρ K c 10 (by decide) (by decide) (dev25 c) rfl rfl rfl rfl) $$ HS; iintro HS
  iapply (step_send m ρ K c 11 (by decide) (by decide) (dev26 c) rfl rfl rfl rfl) $$ HS; iintro HS
  iapply (step_send m ρ K c 12 (by decide) (by decide) (dev27 c) rfl rfl rfl rfl) $$ HS; iintro HS
  iapply (step_send m ρ K c 13 (by decide) (by decide) (dev28 c) rfl rfl rfl rfl) $$ HS; iintro HS
  iapply (step_send m ρ K c 14 (by decide) (by decide) (dev29 c) rfl rfl rfl rfl) $$ HS; iintro HS
  iapply (step_send m ρ K c 15 (by decide) (by decide) (dev30 c) rfl rfl rfl rfl) $$ HS; iintro HS
  -- the fifteen waits for blocks
  unfold sndSt
  icases HS with ⟨-, HO, -, HcS⟩
  rw [owedRecv_end]
  ihave HatS := (Entails.of_eq (range_split fun j => atPos ER (sendC c j) 0 ∅ 0)) $$ HatS
  icases HatS with ⟨HatS0, HatS⟩
  ihave HatR := (Entails.of_eq (range_split fun j => atPos ER (recvC c j) 0 ∅ 0)) $$ HatR
  icases HatR with ⟨HatR0, HatR⟩
  ihave HS := (show iprop(records m ρ K ∗ owesAny c 0 ∗ (bigSep (Finset.Ico 1 16) fun j => atPos ER (recvC c j) 0 ∅ 0)
      ∗ bigSep (Finset.Ico 1 16) fun j => cred (tallyAt (recvC c j) () N)) ⊢ iprop(records m ρ K ∗ rcvSt m ρ c 1) by
    unfold rcvSt
    rw [bigSep_sep', Finset.Ico_self, bigSep_empty]
    iintro ⟨HR, HO, H1, H2⟩
    isplitl [HR]; · iexact HR
    isplitl [HO]; · iexact HO
    isplitl [H1 H2]
    · isplitl [H1] <;> iassumption
    · iempintro) $$ [HO HatR HcR]
  · isplitr; · iexact HR
    isplitl [HO]; · iexact HO
    isplitl [HatR] <;> iassumption
  iapply (step_recv m ρ K c 1 (by decide) (by decide) rfl (s := 1) (hs := by decide) rfl) $$ HS; iintro HS
  iapply (step_recv m ρ K c 2 (by decide) (by decide) rfl (s := 2) (hs := by decide) rfl) $$ HS; iintro HS
  iapply (step_recv m ρ K c 3 (by decide) (by decide) rfl (s := 3) (hs := by decide) rfl) $$ HS; iintro HS
  iapply (step_recv m ρ K c 4 (by decide) (by decide) rfl (s := 4) (hs := by decide) rfl) $$ HS; iintro HS
  iapply (step_recv m ρ K c 5 (by decide) (by decide) rfl (s := 5) (hs := by decide) rfl) $$ HS; iintro HS
  iapply (step_recv m ρ K c 6 (by decide) (by decide) rfl (s := 6) (hs := by decide) rfl) $$ HS; iintro HS
  iapply (step_recv m ρ K c 7 (by decide) (by decide) rfl (s := 7) (hs := by decide) rfl) $$ HS; iintro HS
  iapply (step_recv m ρ K c 8 (by decide) (by decide) rfl (s := 8) (hs := by decide) rfl) $$ HS; iintro HS
  iapply (step_recv m ρ K c 9 (by decide) (by decide) rfl (s := 9) (hs := by decide) rfl) $$ HS; iintro HS
  iapply (step_recv m ρ K c 10 (by decide) (by decide) rfl (s := 10) (hs := by decide) rfl) $$ HS; iintro HS
  iapply (step_recv m ρ K c 11 (by decide) (by decide) rfl (s := 11) (hs := by decide) rfl) $$ HS; iintro HS
  iapply (step_recv m ρ K c 12 (by decide) (by decide) rfl (s := 12) (hs := by decide) rfl) $$ HS; iintro HS
  iapply (step_recv m ρ K c 13 (by decide) (by decide) rfl (s := 13) (hs := by decide) rfl) $$ HS; iintro HS
  iapply (step_recv m ρ K c 14 (by decide) (by decide) rfl (s := 14) (hs := by decide) rfl) $$ HS; iintro HS
  iapply (step_recv m ρ K c 15 (by decide) (by decide) rfl (s := 15) (hs := by decide) rfl) $$ HS; iintro HS
  -- the whole buffer, at the share kept back
  icases HS with ⟨-, HS⟩
  ihave HS := (rcv_end m ρ c) $$ HS
  icases HS with ⟨HO, Hrecv, HzR⟩
  unfold recvPay
  ihave Hrest := (rest_tokens m ρ c).1 $$ Hrecv
  icases Hrest with ⟨HkeptR, HtokR⟩
  ihave Hall := (buf_slots c kept (blocks m ρ c)).2 $$ [Hkept HkeptR]
  · isplitl [Hkept] <;> iassumption
  ihave Hall := (buf_whole c kept (blocks m ρ c)).2 $$ Hall
  iapply (wp_load 𝒱₀ (c : Thread nD τ) none Set.univ (m := Memref.whole cc0_scratch0) (Finset.subset_univ _)) $$ Hall; iintro Hall
  rw [read_buf]
  iapply (wp_load 𝒱₀ (c : Thread nD τ) none Set.univ (m := Memref.whole cc0_stg4_0) (Finset.subset_univ _)) $$ Hout; iintro Hout
  iapply (wp_store 𝒱₀ (c : Thread nD τ) none Set.univ (m := (Memref.whole cc0_stg4_0 : Memref sig .tc .vmem S1024x512 .bf16))
    (r := Rect.unit (s := S1024x512) ![0, 0] S1024x512.size inb_S1024x512_S1024x512_0_0) (Mk := Finset.univ) (Finset.subset_univ _)) $$ Hout; iintro Hout
  rw [write_out]
  -- the fifteen waits for the copies
  ihave HS := (show iprop(records m ρ K ∗ owesAny c 0 ∗ (bigSep (Finset.Ico 1 16) fun j => atPos ER (sendC c j) 0 ∅ 0)
      ∗ bigSep (Finset.Ico 1 16) fun j => cred (tallyAt (sendC c j) () N)) ⊢ iprop(records m ρ K ∗ bckSt m ρ c 1) by
    unfold bckSt
    rw [bigSep_sep', Finset.Ico_self, bigSep_empty]
    iintro ⟨HR, HO, H1, H2⟩
    isplitl [HR]; · iexact HR
    isplitl [HO]; · iexact HO
    isplitl [H1 H2]
    · isplitl [H1] <;> iassumption
    · iempintro) $$ [HO HatS HcS]
  · isplitr; · iexact HR
    isplitl [HO]; · iexact HO
    isplitl [HatS] <;> iassumption
  iapply (step_back m ρ K c 1 (by decide) (by decide) rfl (s := 0) (hs := z16) rfl) $$ HS; iintro HS
  iapply (step_back m ρ K c 2 (by decide) (by decide) rfl (s := 0) (hs := z16) rfl) $$ HS; iintro HS
  iapply (step_back m ρ K c 3 (by decide) (by decide) rfl (s := 0) (hs := z16) rfl) $$ HS; iintro HS
  iapply (step_back m ρ K c 4 (by decide) (by decide) rfl (s := 0) (hs := z16) rfl) $$ HS; iintro HS
  iapply (step_back m ρ K c 5 (by decide) (by decide) rfl (s := 0) (hs := z16) rfl) $$ HS; iintro HS
  iapply (step_back m ρ K c 6 (by decide) (by decide) rfl (s := 0) (hs := z16) rfl) $$ HS; iintro HS
  iapply (step_back m ρ K c 7 (by decide) (by decide) rfl (s := 0) (hs := z16) rfl) $$ HS; iintro HS
  iapply (step_back m ρ K c 8 (by decide) (by decide) rfl (s := 0) (hs := z16) rfl) $$ HS; iintro HS
  iapply (step_back m ρ K c 9 (by decide) (by decide) rfl (s := 0) (hs := z16) rfl) $$ HS; iintro HS
  iapply (step_back m ρ K c 10 (by decide) (by decide) rfl (s := 0) (hs := z16) rfl) $$ HS; iintro HS
  iapply (step_back m ρ K c 11 (by decide) (by decide) rfl (s := 0) (hs := z16) rfl) $$ HS; iintro HS
  iapply (step_back m ρ K c 12 (by decide) (by decide) rfl (s := 0) (hs := z16) rfl) $$ HS; iintro HS
  iapply (step_back m ρ K c 13 (by decide) (by decide) rfl (s := 0) (hs := z16) rfl) $$ HS; iintro HS
  iapply (step_back m ρ K c 14 (by decide) (by decide) rfl (s := 0) (hs := z16) rfl) $$ HS; iintro HS
  iapply (step_back m ρ K c 15 (by decide) (by decide) rfl (s := 0) (hs := z16) rfl) $$ HS; iintro HS
  icases HS with ⟨-, HS⟩
  ihave HS := (bck_end m ρ c) $$ HS
  icases HS with ⟨HO, Hback, HzS⟩
  -- the two unused cells close
  ihave HI := (records_at m ρ K (kcell_send c z16)) $$ HR
  icases HI with ⟨#HIS, -⟩
  ihave HI := (records_at m ρ K (kcell_recv c z16)) $$ HR
  icases HI with ⟨#HIR, -⟩
  rw [wp_ret]
  imod (Rounds.cell_close ER (sched m ρ) (Set.mem_univ (K (c, iS 0))) (fun h => h) (R := 0) (fun r _ => duties_send_zero m ρ c r)) $$ [HatS0] with HzS0
  · isplitr; · iexact HIS
    iexact HatS0
  imod (Rounds.cell_close ER (sched m ρ) (Set.mem_univ (K (c, iR 0))) (fun h => h) (R := 0) (fun r _ => duties_recv_zero m ρ c r)) $$ [HatR0] with HzR0
  · isplitr; · iexact HIR
    iexact HatR0
  imodintro
  iapply Hk
  -- the buffer of blocks whole again
  ihave Hall := (buf_whole c kept (blocks m ρ c)).1 $$ Hall
  ihave Hall := (buf_slots c kept (blocks m ρ c)).1 $$ Hall
  icases Hall with ⟨Hkept, HkeptR⟩
  ihave Hrest := (rest_tokens m ρ c).2 $$ [HkeptR HtokR]
  · isplitl [HkeptR] <;> iassumption
  ihave Hb0 := (buf_tokens c (slotSet 0) (blocks m ρ c)).2 $$ [Hkept Htok0 Hback]
  · isplitl [Hkept]; · iexact Hkept
    isplitl [Htok0]; · iexact Htok0
    iexact Hback
  ihave Hbuf := (buf_slots c fullShare (blocks m ρ c)).2 $$ [Hb0 Hrest]
  · isplitl [Hb0] <;> iassumption
  unfold bodyPost Φ₁ Dat.owesAt Pipeline.owesWithin owesAny
  icases HO with ⟨%W2, HO⟩
  rw [show (dats m ρ 0 c).owed t0_0.succ = 0 from rfl]
  isplitl [Hbuf HzB HzS0 HzS HzR0 HzR]
  · isplitl [Hbuf]; · iexists _; iexact Hbuf
    isplitl [HzB]; · iexact HzB
    isplitl [HzS0 HzS]
    · iapply (Entails.of_eq (range_split fun j => semVal (sendC c j) 0).symm)
      isplitl [HzS0] <;> iassumption
    · iapply (Entails.of_eq (range_split fun j => semVal (recvC c j) 0).symm)
      isplitl [HzR0] <;> iassumption
  isplitl [HO]
  · iexists W2
    isplitr; · ipureintro; exact fun _ _ => Or.inl trivial
    iexact HO
  isplitl [Hx]; · (iexists _; isplitr; · (ipureintro; rfl)); iexact Hx
  isplitl [Hr]; · (iexists _; isplitr; · (ipureintro; rfl)); iexact Hr
  isplitl [Hi]; · (iexists _; isplitr; · (ipureintro; rfl)); iexact Hi
  isplitl [Hw]; · (iexists _; isplitr; · (ipureintro; rfl)); iexact Hw
  iexists _; isplitr; · (ipureintro; rfl)
  iexact Hout

/-- The body at the one grid point, from the invariant before it to the invariant after it. -/
theorem body_obligation (c : Dev nD) : BodyObligation (dats (F := F) m ρ 0 c) (defs₀ (F := F)) 𝒱₀ () Set.univ := fun t => by
  rw [fin_N0 t, bigSep_W0, bigSep_W0]
  simp only [owns_whole_eq]
  show iprop(Φ₀ m ρ c ∗ (dats m ρ 0 c).owesAt () t0_0.castSucc
      ∗ (∃ d, stg c cc0_stg0_0 ((dats m ρ 0 c).before (0 : Fin 5) t0_0 d))
      ∗ (∃ d, stg c cc0_stg1_0 ((dats m ρ 0 c).before (1 : Fin 5) t0_0 d))
      ∗ (∃ d, stg c cc0_stg2_0 ((dats m ρ 0 c).before (2 : Fin 5) t0_0 d))
      ∗ (∃ d, stg c cc0_stg3_0 ((dats m ρ 0 c).before (3 : Fin 5) t0_0 d))
      ∗ (∃ d, stg c cc0_stg4_0 ((dats m ρ 0 c).before (4 : Fin 5) t0_0 d))) ⊢ wp frame _ _ _ (fun _ => bodyPost m ρ c)
  unfold Φ₀ start
  iintro ⟨⟨⟨⟨%K, Hg⟩, Hcr, Hlev⟩, Hbuf⟩, Hstage⟩
  iapply (sound_body m ρ K c fun _ => bodyPost m ρ c)
  unfold bodyPre
  isplitl
  · isplitl [Hg Hcr Hlev Hbuf]
    · isplitl [Hg]; · iexact Hg
      isplitl [Hcr]; · iexact Hcr
      isplitl [Hlev]; · iexact Hlev
      iexact Hbuf
    · iexact Hstage
  · iintro H; iexact H

end Body

end Cert.KernelIdeal.Moe

end
-- ==== Proof.Run.lean ====
/-
The run of all sixteen devices: the ghost state minted at the launch, the cells put in place, the payments dealt around,
and the whole program executed from any memory and any generator states.
-/
module

public import proofs.«01_k».proof.Proof.Body
public import Idealize.ShloMosaic.Lib.Pipeline.CollectiveSegs

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTokN pointsTo_toks_range)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

/-! ## Families over the cells of a device -/

section Families

variable {M : Type} [URA M]

/-- A family over the first `n` numbers from `a` on. -/
theorem family_fin (A : ℕ → sProp M) (a n : ℕ) :
    (bigSep Finset.univ fun j : Fin n => A (a + j.val)) = bigSep (Finset.Ico a (a + n)) A := by
  have h : Finset.Ico a (a + n) = Finset.univ.map ⟨fun j : Fin n => a + j.val, fun i j h => Fin.ext (Nat.add_left_cancel h)⟩ := by
    ext x
    simp only [Finset.mem_Ico, Finset.mem_map, Finset.mem_univ, true_and, Function.Embedding.coeFn_mk]
    exact ⟨fun h => ⟨⟨x - a, by omega⟩, by show a + (x - a) = x; omega⟩, fun ⟨j, hj⟩ => by have := j.isLt; change a + j.val = x at hj; omega⟩
  rw [h, bigSep_map]; rfl

/-- A family over the scoped semaphores is one over the send and one over the receive semaphores. -/
theorem family_own (Ψ : SemLoc sig → sProp M) :
    (bigSep Finset.univ fun i : Fin 32 => Ψ (osem i))
      = iprop((bigSep (Finset.range 16) fun k => Ψ (.dma (sendS k))) ∗ bigSep (Finset.range 16) fun k => Ψ (.dma (recvS k))) := by
  have h1 : (bigSep Finset.univ fun i : Fin 32 => Ψ (osem i)) = bigSep Finset.univ fun i : Fin 32 => Ψ (.dma (sendS (0 + i.val))) :=
    bigSep_congr fun i _ => by
      have := i.isLt
      exact congrArg (fun q => Ψ (.dma q)) (Fin.ext (by show 5 + i.val = (5 + (0 + i.val)) % 37; omega))
  have h2 : (bigSep (Finset.range 16) fun k => Ψ (.dma (recvS k))) = bigSep (Finset.Ico 16 32) fun k => Ψ (.dma (sendS k)) := by
    rw [Finset.range_eq_Ico 16, ← family_fin (fun k => Ψ (.dma (recvS k))) 0 16, ← family_fin (fun k => Ψ (.dma (sendS k))) 16 16]
    exact bigSep_congr fun k _ => congrArg (fun q => Ψ (.dma q)) (Fin.ext (by show (21 + (0 + k.val)) % 37 = (5 + (16 + k.val)) % 37; omega))
  rw [h1, family_fin (fun k => Ψ (.dma (sendS k))) 0 32, h2, Finset.range_eq_Ico 16,
    show Finset.Ico 0 (0 + 32) = Finset.Ico 0 16 ∪ Finset.Ico 16 32 by decide, bigSep_union (by decide)]
  rfl

/-- A family over all cells of a device: the barrier, the send and the receive cells. -/
theorem family_cells (Ψ : GSem nD τ sig → sProp M) (c : Dev nD) :
    (bigSep Finset.univ fun i : Fin 33 => Ψ (kcell (c, i)))
      = iprop(Ψ (barC c) ∗ (bigSep (Finset.range 16) fun k => Ψ (sendC c k)) ∗ bigSep (Finset.range 16) fun k => Ψ (recvC c k)) := by
  have h : (Finset.univ.erase (0 : Fin 33)) = Finset.univ.map (Fin.succEmb 32) := by
    ext x
    simp only [Finset.mem_erase, Finset.mem_univ, and_true, Finset.mem_map, true_and]
    exact ⟨fun h => ⟨x.pred h, Fin.succ_pred x h⟩, fun ⟨j, hj⟩ => hj ▸ Fin.succ_ne_zero j⟩
  rw [bigSep_univ_at _ (0 : Fin 33), h, bigSep_map]
  exact congrArg (fun X => iprop(Ψ (barC c) ∗ X)) (family_own fun sm => Ψ ((c : Thread nD τ), sm))

/-- Over the devices, then over numbers: the two orders agree. -/
theorem family_swap (T : Dev nD → ℕ → sProp M) (S : Finset ℕ) :
    (bigSep Finset.univ fun c : Dev nD => bigSep S fun d => T c d) = bigSep S fun d => bigSep Finset.univ fun c : Dev nD => T c d := by
  induction S using Finset.induction_on with
  | empty => simp only [bigSep_empty, bigSep_emp_const]
  | insert d S hd ih =>
    rw [bigSep_insert hd, ← ih]
    exact (bigSep_congr fun c _ => bigSep_insert hd).trans (bigSep_sep' _ _ _)

/-- Payments sorted by who receives them, sorted by who makes them: payment `16 - j` of device `c + j` is made by `c`. -/
theorem family_around (T : Dev nD → ℕ → sProp M) :
    (bigSep Finset.univ fun c : Dev nD => bigSep (Finset.Ico 1 16) fun d => T c d)
      = bigSep Finset.univ fun c : Dev nD => bigSep (Finset.Ico 1 16) fun j => T (shift c j) (16 - j) := by
  have himg : Finset.Ico 1 16 = (Finset.Ico 1 16).image fun j => 16 - j := by decide
  have hinj : Set.InjOn (fun j => 16 - j) (Finset.Ico 1 16 : Finset ℕ) := fun i hi j hj h => by
    have := Finset.mem_Ico.mp hi; have := Finset.mem_Ico.mp hj; dsimp only at h; omega
  rw [family_swap, family_swap fun (c : Dev nD) j => T (shift c j) (16 - j)]
  conv_lhs => rw [himg]
  rw [bigSep_image_of_injOn hinj]
  refine bigSep_congr fun j hj => ?_
  have h16 : j ≤ 16 := by have := Finset.mem_Ico.mp hj; omega
  exact bigSep_univ_equiv (turn j h16) fun c : Dev nD => T c (16 - j)

end Families

/-! ## What the launch mints -/

theorem csem_injective : Function.Injective csem := by decide +kernel

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]
def cells : Finset (GSem nD τ sig) := Finset.univ.map ⟨kcell, kcell_injective⟩

/-- The payments to a device's own cells: to its barrier, to its send cells, to its receive cells. -/
def payAt (tj : Fin 3 × Fin 15) : SemLoc sig × ℕ := match tj.1 with
  | 0 => (.reg barS, 1 + tj.2.val)
  | 1 => (.dma (sendS (1 + tj.2.val)), 0)
  | 2 => (.dma (recvS (1 + tj.2.val)), 0)
theorem payAt_injective : Function.Injective payAt := by decide +kernel
abbrev tokAt (x : Dev nD × (Fin 3 × Fin 15)) : GSem nD τ sig × ℕ × ℕ := (((x.1 : Thread nD τ), (payAt x.2).1), 0, (payAt x.2).2)
theorem tokAt_injective : Function.Injective tokAt := by
  rintro ⟨c, p⟩ ⟨c', p'⟩ h
  have h1 : c = c' := congrArg (fun x : GSem nD τ sig × ℕ × ℕ => x.1.1.1) h
  have h2 : p = p' := payAt_injective (Prod.ext (congrArg (fun x : GSem nD τ sig × ℕ × ℕ => x.1.2) h) (congrArg (fun x : GSem nD τ sig × ℕ × ℕ => x.2.2) h))
  rw [h1, h2]
def allToks : Finset (GSem nD τ sig × ℕ × ℕ) := Finset.univ.map ⟨tokAt, tokAt_injective⟩

def u₀ : UU := (initOf (Pipeline.cells cfgs cellOf_inj) (Pipeline.launchToks cfgs cellOf_inj), initOf cells allToks)

/-- The tokens of the payments to device `c`'s own cells. -/
def toks (c : Dev nD) : sProp 𝕄 :=
  iprop((bigSep (Finset.Ico 1 16) fun d => dutyTok ER (barC c) 0 d) ∗ (bigSep (Finset.Ico 1 16) fun j => dutyTok ER (sendC c j) 0 0)
    ∗ bigSep (Finset.Ico 1 16) fun j => dutyTok ER (recvC c j) 0 0)
/-- The tokens of the payments device `c` makes. -/
def payToks (c : Dev nD) : sProp 𝕄 :=
  iprop((bigSep (Finset.Ico 1 16) fun j => dutyTok ER (barC (shift c j)) 0 (16 - j)) ∗ (bigSep (Finset.Ico 1 16) fun j => dutyTok ER (sendC c j) 0 0)
    ∗ bigSep (Finset.Ico 1 16) fun j => dutyTok ER (recvC (shift c j) (16 - j)) 0 0)

/-- What the launch hands device `c`. -/
def G (c : Dev nD) : sProp 𝕄 :=
  iprop((bigSep Finset.univ fun i : Fin 33 => roundState ER (sched m ρ) (kcell (c, i)) 0)
    ∗ (bigSep Finset.univ fun i : Fin 33 => atPos ER (kcell (c, i)) 0 ∅ 0)
    ∗ (bigSep Finset.univ fun i : Fin 33 => reached ER (kcell (c, i)) 0) ∗ toks c)
/-- What it has once all cells are in place. -/
def G' (c : Dev nD) : sProp 𝕄 := iprop(∃ K, ghost m ρ K c)

theorem toks_eq (c : Dev nD) : (bigSep Finset.univ fun p : Fin 3 × Fin 15 =>
    (dutyTok ER (tokAt (c, p)).1 (tokAt (c, p)).2.1 (tokAt (c, p)).2.2 : sProp 𝕄)) = toks c := by
  rw [bigSep_univ_prod, bigSep_univ_eq_bigSepL [0, 1, 2] (by decide) (by decide)]
  unfold toks
  rw [← family_fin (fun d => (dutyTok ER (barC c) 0 d : sProp 𝕄)) 1 15, ← family_fin (fun j => (dutyTok ER (sendC c j) 0 0 : sProp 𝕄)) 1 15,
    ← family_fin (fun j => (dutyTok ER (recvC c j) 0 0 : sProp 𝕄)) 1 15]
  rfl

theorem fund : BI.own (ER (initOf cells allToks)) ⊢ (|==> bigSep Finset.univ (G m ρ) : sProp 𝕄) := by
  have hc (Φ : GSem nD τ sig → sProp 𝕄) : bigSep cells Φ = bigSep Finset.univ fun c : Dev nD => bigSep Finset.univ fun i : Fin 33 => Φ (kcell (c, i)) := by
    unfold cells; rw [bigSep_map, bigSep_univ_prod]; rfl
  have ht : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (sched m ρ) cells allToks) $$ HX with ⟨Hst, Hr, Hat, Htok⟩
  imodintro
  ihave Hst := (Entails.of_eq (hc fun g => roundState ER (sched m ρ) g 0)) $$ Hst
  ihave Hat := (Entails.of_eq (hc fun g => atPos ER g 0 ∅ 0)) $$ Hat
  ihave Hr := (Entails.of_eq (hc fun g => reached ER g 0)) $$ Hr
  ihave Htok := (Entails.of_eq ht) $$ Htok
  unfold G; simp only [bigSep_sep']
  isplitl [Hst]; · iexact Hst
  isplitl [Hat]; · iexact Hat
  isplitl [Hr]; · iexact Hr
  iexact Htok

/-! ## The cells put in place -/

abbrev ownZ (c : Dev nD) : sProp 𝕄 := Pipeline.ownSems0 (Ix := Unit) (Name := ℕ) (U := UU) (Lvl := ℕ) (Val := Elt F) (τ := τ) osem c

theorem ownZ_eq (c : Dev nD) : (ownZ c : sProp 𝕄)
    = iprop((bigSep (Finset.range 16) fun k => semVal (sendC c k) 0) ∗ bigSep (Finset.range 16) fun k => semVal (recvC c k) 0) :=
  family_own fun sm => (semVal ((c : Thread nD τ), sm) 0 : sProp 𝕄)
theorem barZ_eq (c : Dev nD) : (unscopedSems0 c : sProp 𝕄) = semVal (barC c) 0 := by
  unfold unscopedSems0; rw [bigSep_eq_bigSepL_of_eq [SemLoc.reg barS] (by decide +kernel) (by decide +kernel)]; rfl

theorem alloc (c : Dev nD) :
    iprop(ownZ c ∗ unscopedSems0 c ∗ G m ρ c)
      ⊢ |={Set.univ}=> iprop((bigSep Finset.univ fun i => iprop(∃ κ : ℕ, cellInv ER (sched m ρ) κ (kcell (c, i))))
          ∗ (bigSep Finset.univ fun i : Fin 33 => atPos ER (kcell (c, i)) 0 ∅ 0)
          ∗ (bigSep Finset.univ fun i : Fin 33 => reached ER (kcell (c, i)) 0) ∗ toks c) := by
  have hmake : iprop((bigSep Finset.univ fun i : Fin 33 => semVal (kcell (c, i)) 0) ∗ bigSep Finset.univ fun i : Fin 33 => roundState ER (sched m ρ) (kcell (c, i)) 0)
      ⊢ (|={Set.univ}=> bigSep Finset.univ fun i => iprop(∃ κ : ℕ, cellInv ER (sched m ρ) κ (kcell (c, i))) : sProp 𝕄) := by
    rw [← bigSep_sep']
    exact (bigSep_mono fun i _ => (Rounds.body_intro ER (sched m ρ) (kcell (c, i))).trans inv_alloc).trans (bigSep_fupd _ _)
  unfold G
  rw [ownZ_eq, barZ_eq]
  iintro ⟨⟨HS, HV⟩, HB, Hst, Hrest⟩
  ihave Hv := (Entails.of_eq (family_cells (fun g => (semVal g 0 : sProp 𝕄)) c).symm) $$ [HS HV HB]
  · isplitl [HB]; · iexact HB
    isplitl [HS]; · iexact HS
    iexact HV
  imod hmake $$ [Hv Hst] with Hinv
  · isplitl [Hv]; · iexact Hv
    iexact Hst
  imodintro
  isplitl [Hinv]; · iexact Hinv
  iexact Hrest

/-- What device `c` alone has: its positions and the tokens of the payments it makes. -/
def linear (c : Dev nD) : sProp 𝕄 := iprop((bigSep Finset.univ fun i : Fin 33 => atPos ER (kcell (c, i)) 0 ∅ 0) ∗ payToks c)

theorem ghost_intro (K : Dev nD × Fin 33 → ℕ) (c : Dev nD) : iprop(records m ρ K ∗ linear c) ⊢ G' m ρ c := by
  unfold linear payToks G' ghost
  rw [family_cells (fun g => (atPos ER g 0 ∅ 0 : sProp 𝕄)) c]
  iintro ⟨HR, ⟨HB, HS, HV⟩, H1, H2, H3⟩
  iexists K
  isplitl [HR]; · iexact HR
  isplitl [HB]; · iexact HB
  isplitl [HS]; · iexact HS
  isplitl [HV]; · iexact HV
  isplitl [H1]; · iexact H1
  isplitl [H2]; · iexact H2
  iexact H3

/-- The tokens, minted with the cells they pay into, go to the devices that pay. -/
theorem toks_dealt : (bigSep Finset.univ fun c : Dev nD => (toks c : sProp 𝕄)) = bigSep Finset.univ fun c : Dev nD => payToks c := by
  unfold toks payToks
  rw [bigSep_sep', bigSep_sep', bigSep_sep', bigSep_sep', family_around fun c d => (dutyTok ER (barC c) 0 d : sProp 𝕄),
    family_around fun c j => (dutyTok ER (recvC c j) 0 0 : sProp 𝕄)]

theorem regroup :
    (bigSep Finset.univ fun c : Dev nD => iprop((bigSep Finset.univ fun i => iprop(∃ κ : ℕ, cellInv ER (sched m ρ) κ (kcell (c, i))))
          ∗ (bigSep Finset.univ fun i : Fin 33 => atPos ER (kcell (c, i)) 0 ∅ 0)
          ∗ (bigSep Finset.univ fun i : Fin 33 => reached ER (kcell (c, i)) 0) ∗ toks c) : sProp 𝕄)
      ⊢ bigSep Finset.univ (G' m ρ) := by
  rw [bigSep_sep', bigSep_sep', bigSep_sep', toks_dealt,
    ← bigSep_univ_prod (fun ci : Dev nD × Fin 33 => iprop(∃ κ : ℕ, cellInv ER (sched m ρ) κ (kcell ci))),
    ← bigSep_univ_prod (fun ci : Dev nD × Fin 33 => (reached ER (kcell ci) 0 : sProp 𝕄))]
  iintro ⟨HI, Hat, HR, Htok⟩
  ihave HK := (BI.bigSep_exists_pi Finset.univ (fun (ci : Dev nD × Fin 33) (κ : ℕ) => (cellInv ER (sched m ρ) κ (kcell ci) : sProp 𝕄))) $$ HI
  icases HK with ⟨%K, HI⟩
  iapply (bigSep_with_persistent (R := records m ρ K) fun c _ => ghost_intro m ρ K c)
  unfold records linear
  rw [bigSep_sep', bigSep_sep']
  isplitl [HI HR]
  · isplitl [HI]; · iexact HI
    iexact HR
  · isplitl [Hat]; · iexact Hat
    iexact Htok

theorem glob : (bigSep Finset.univ fun c => iprop(ownZ c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (regroup m ρ))

/-! ## The credit of what will be sent -/

def owedAll (c : Dev nD) : CellTallies nD τ sig Unit := owedBar c 1

theorem tally_sum {cell : ℕ → GSem nD τ sig} {n : ℕ} {S : Finset ℕ} {g : GSem nD τ sig} :
    (∑ j ∈ S, tallyAt (cell j) () n : CellTallies nD τ sig Unit) g () = ∑ j ∈ S, if g = cell j then n else 0 := by
  rw [Finset.sum_apply, Finsupp.finset_sum_apply]
  refine Finset.sum_congr rfl fun j _ => ?_
  rw [tallyAt_apply]
  exact if_congr (and_iff_left rfl) rfl rfl

theorem bar_ne_recv (c d : Dev nD) (k : ℕ) : barC c ≠ recvC d k := fun h => by cases congrArg Prod.snd h
theorem bar_iff {c d : Dev nD} : barC c = barC d ↔ c = d := ⟨fun h => congrArg (fun g : GSem nD τ sig => g.1.1) h, fun h => h ▸ rfl⟩
theorem recv_iff {c d : Dev nD} {j k : ℕ} (hj : j < 16) (hk : k < 16) : recvC c j = recvC d k ↔ c = d ∧ j = k :=
  ⟨fun h => ⟨congrArg (fun g : GSem nD τ sig => g.1.1) h, by
    have h2 : SemLoc.dma (recvS j) = SemLoc.dma (recvS k) := congrArg Prod.snd h
    have h3 : (recvS j).val = (recvS k).val := congrArg Fin.val (SemLoc.dma.inj h2)
    rw [recvS_val hj, recvS_val hk] at h3; omega⟩, fun h => by rw [h.1, h.2]⟩

/-- A device's barrier is owed one signal by each of the fifteen others. -/
theorem due_bar (c : Dev nD) : ∑ d : Dev nD, owedAll d (barC c) () = 15 := by
  have h (d : Dev nD) : owedAll d (barC c) () = ∑ j ∈ Finset.Ico 1 16, if c = shift d j then 1 else 0 := by
    unfold owedAll owedBar owedRecv
    rw [Pi.add_apply, Finsupp.add_apply, tally_sum, tally_sum, Finset.sum_eq_zero fun j _ => if_neg (bar_ne_recv c _ _), Nat.zero_add]
    exact Finset.sum_congr rfl fun j _ => if_congr bar_iff rfl rfl
  rw [Finset.sum_congr rfl fun d _ => h d]
  clear h
  revert c; decide +kernel

/-- A receive cell is owed one block, by the device whose copy lands there. -/
theorem due_recv (c : Dev nD) {s : ℕ} (h1 : 1 ≤ s) (hs : s < 16) : ∑ d : Dev nD, owedAll d (recvC c s) () = N := by
  have h (d : Dev nD) : owedAll d (recvC c s) () = if shift c s = d then N else 0 := by
    unfold owedAll owedBar owedRecv
    rw [Pi.add_apply, Finsupp.add_apply, tally_sum, tally_sum, Finset.sum_eq_zero (s := Finset.Ico 1 16) (f := fun j => if recvC c s = barC (shift d j) then 1 else 0)
      fun j _ => if_neg (bar_ne_recv _ c s).symm, Nat.add_zero,
      Finset.sum_eq_single_of_mem (16 - s) (Finset.mem_Ico.mpr ⟨by omega, by omega⟩) fun j hj hne => if_neg fun h => hne (by
        have hj := Finset.mem_Ico.mp hj
        have := ((recv_iff hs (by omega)).mp h).2; omega)]
    refine if_congr ((recv_iff hs (by omega)).trans ⟨fun h => ?_, fun h => ⟨?_, by omega⟩⟩) rfl rfl
    · rw [h.1]; exact shift_forth d (by omega)
    · rw [← h]; exact (shift_back c (by omega)).symm
  rw [Finset.sum_congr rfl fun d _ => h d, Finset.sum_ite_eq Finset.univ (shift c s), if_pos (Finset.mem_univ _)]

theorem launch_at {g : GSem nD τ sig} {n : ℕ} (h : ∑ d : Dev nD, owedAll d g () = n) :
    tallyOn g (launchCredit (Pipeline.owing owedAll) 0 g) = (tallyAt g () n : CellTallies nD τ sig Unit) := by
  unfold tallyAt; refine congrArg _ (Finsupp.ext fun u => ?_); cases u
  rw [Pipeline.launchCredit_owing, Finsupp.single_eq_same, h]

def recvEmb : Fin 15 ↪ SemLoc sig := ⟨fun j => .dma (recvS (1 + j.val)), by decide +kernel⟩

theorem credits_intro (c : Dev nD) : (Pipeline.launchCred owedAll c : sProp 𝕄) ⊢ credits c := by
  unfold Pipeline.launchCred credits
  rw [bigSep_univ_at _ (SemLoc.reg barS), launch_at (due_bar c)]
  refine sep_mono_right ?_
  have hs : Finset.univ.map recvEmb ⊆ Finset.univ.erase (SemLoc.reg barS) := fun x hx => by
    obtain ⟨j, -, rfl⟩ := Finset.mem_map.mp hx
    exact Finset.mem_erase.mpr ⟨fun h => (by cases h), Finset.mem_univ _⟩
  have he : (bigSep (Finset.univ.map recvEmb) fun sm => (cred (tallyOn ((c : Thread nD τ), sm)
      (launchCredit (Pipeline.owing owedAll) 0 ((c : Thread nD τ), sm))) : sProp 𝕄)) = bigSep (Finset.Ico 1 16) fun j => cred (tallyAt (recvC c j) () N) := by
    rw [bigSep_map, ← family_fin (fun j => (cred (tallyAt (recvC c j) () N) : sProp 𝕄)) 1 15]
    exact bigSep_congr fun j _ => by
      have := j.isLt
      exact congrArg cred (launch_at (due_recv c (s := 1 + j.val) (by omega) (by omega)))
  rw [← he]
  exact bigSep_subset hs

/-! ## The run -/

theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' m ρ c)
      ⊢ |={Set.univ}=> iprop(start m ρ c ∗ emp) := by
  iintro ⟨-, Hlev, Hcr, -, HG⟩
  ihave Hc := (credits_intro (F := F) c) $$ Hcr
  imodintro
  unfold start G'
  isplitl
  · isplitl [HG]; · iexact HG
    isplitl [Hc]; · iexact Hc
    iexact Hlev
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; unfold bufPts; iexact Hr

theorem leave (c : Dev nD) :
    (dats m ρ 0 c).Φ (Fin.last cfg0.N) ⊢ iprop(unscopedSems0 c ∗ ownZ c ∗ Pipeline.scopedRest cfg0.spec c) := by
  rw [show (dats m ρ 0 c).Φ (Fin.last cfg0.N) = Φ₁ c from rfl, scopedRest0_eq, ownZ_eq, barZ_eq]
  unfold Φ₁ bufPts
  iintro ⟨⟨%f, Hr⟩, HzB, HzS, HzR⟩
  isplitl [HzB]; · iexact HzB
  isplitl [HzS HzR]
  · isplitl [HzS]; · iexact HzS
    iexact HzR
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The contents of array `w` of device `c` at the end. -/
def final (c : Dev nD) (w : Fin cfg0.W) : Buf (Elt F) ((cfg0.win w).arr.view.loc (c : Thread nD τ)) := (dats m ρ 0 c).arrAt w cfg0.N

def atEnd (r : PUnit × MemSt nD τ sig (Elt F)) : Prop :=
  ∀ c : Dev nD, ∀ w : Fin cfg0.W, r.2.mem ((cfg0.win w).arr.view.loc (c : Thread nD τ)) = final m ρ c w

/-- Started from any memory, the sixteen devices all finish, whatever the order of their steps, and then every array holds
    its final contents and every semaphore is at zero. -/
theorem run_main : θ_run defs (onTc (τ := τ) (main (F := F))) (s₀ m ρ) (fun r => atEnd m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0)
    (hstage := stage_whole0) (hshare := share_eq m ρ) (hdistinct := winFacts0.arr_inj)
    (O₀ := owedAll) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Moe

end
-- ==== Proof.Values.lean ====
/-
The run read at the arrays that the claims name: the arguments end as they began, every semaphore ends at zero, and the
result of each device ends holding the kernel's value of that device's own arguments.
-/
module

public import proofs.«01_k».proof.Proof.Run

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareDrop shareTokN pointsTo_toks_range)

variable {F : FTy → Type} [FloatOps F]

variable (m : (ℓ : Loc nD τ sig) → Buf (Elt F) ℓ) (ρ : Dev nD → PrngReg)

/-! ## Staged contents are the whole arrays -/

theorem xstg_eq (c : Dev nD) : xstg m ρ c = m ((c : Thread nD τ).loc main_arg0) :=
  Memref.read_access_unit_zero (Elt F) main_arg0 (funext fun a => by fin_cases a <;> decide) (fun a => by fin_cases a <;> decide) _

theorem istg_eq (c : Dev nD) : istg m ρ c = m ((c : Thread nD τ).loc main_arg2) :=
  Memref.read_access_unit_zero (Elt F) main_arg2 (funext fun a => by fin_cases a <;> decide) (fun a => by fin_cases a <;> decide) _

theorem wstg_eq (c : Dev nD) : wstg m ρ c = m ((c : Thread nD τ).loc main_arg3) :=
  Memref.read_access_unit_zero (Elt F) main_arg3 (funext fun a => by fin_cases a <;> decide) (fun a => by fin_cases a <;> decide) _

/-! ## Final contents -/

theorem final_in (c : Dev nD) (w : Fin cfg0.W) (h : (cfg0.win w).isOut = false) :
    final m ρ c w = m ((cfg0.win w).arr.view.loc (c : Thread nD τ)) := (dats m ρ 0 c).arrAt_in w h _

/-- The result array ends as the value that the body stored. -/
theorem final_out (c : Dev nD) : final m ρ c (4 : Fin 5) = outAt m ρ c := by
  have h : (win0_4.blk (0 : Fin 1)).view.read (Elt F) (final m ρ c (4 : Fin 5)) = outAt m ρ c := by
    unfold final
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  have hr := Memref.read_access_unit_zero (Elt F) main_v1 (off := fun a => (win0_4.index (0 : Fin 1)) a * main_v1.ty.shape.size a)
    (funext fun a => by fin_cases a <;> decide) (fun a => by fin_cases a <;> decide) (final m ρ c (4 : Fin 5))
  exact hr.symm.trans h

/-- The run, read at the arguments, the result and the semaphores. -/
theorem run_values : θ_run defs (onTc (τ := τ) (main (F := F))) ⟨m, fun _ => 0, ρ⟩ (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun r h => ⟨fun c =>
      ⟨(h.1 c (4 : Fin 5)).trans (final_out m ρ c), (h.1 c (0 : Fin 5)).trans (final_in m ρ c (0 : Fin 5) rfl),
        (h.1 c (1 : Fin 5)).trans (final_in m ρ c (1 : Fin 5) rfl), (h.1 c (2 : Fin 5)).trans (final_in m ρ c (2 : Fin 5) rfl),
        (h.1 c (3 : Fin 5)).trans (final_in m ρ c (3 : Fin 5) rfl)⟩, h.2⟩)
    (run_main m ρ)

end Cert.KernelIdeal.Moe

end
-- ==== Proof.Frames.lean ====
/-
The frames: each of the three programs ends with its arguments as they were and every semaphore at zero.
-/
module

public import proofs.«01_k».proof.Defs
public import proofs.«01_k».proof.Proof.Values
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

set_option maxRecDepth 100000

noncomputable section

namespace Cert.Proof

open Idealize.ShloMosaic Idealize.SL.Sem

/-- The side conditions of the precondition, read of the kernel's blocks. -/
theorem preKernel : Cert.Pre_routed_KernelIdeal.Facts where
  bcast_S_S1024x1 := by decide
  reducesTo_S1024x1_S_d0_1 := by decide
  h_S_ := by decide

/-- The side conditions of the precondition, read of the reference's arrays. -/
theorem preReference : Cert.Pre_routed_ReferenceIdeal.Facts where
  bcast_S_S1024x1 := by decide
  reducesTo_S1024x1_S_d0_1 := by decide
  h_S_ := by decide

/-- The two tables of bodies are the same table. -/
theorem same_bodies : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | ⟨0, _⟩, (t, s) => exact rfl

theorem same_defs : Cert.Kernel.defs (F := Bits) = Cert.KernelIdeal.defs (F := Bits) := congrArg (Pipeline.defs _) same_bodies

/-- The kernel over bits keeps its arguments and clears its semaphores. -/
theorem frame_kernel : Cert.quiescent_Kernel := fun m ρ _ => by
  rw [same_defs]
  exact (θ_run Cert.KernelIdeal.defs _ _).mono (fun _ h => ⟨fun c => (h.1 c).2, h.2⟩) (Cert.KernelIdeal.Moe.run_values (F := Bits) m ρ)

/-- So does the kernel over the extended reals. -/
theorem frame_ideal : Cert.quiescent_KernelIdeal := fun m ρ _ =>
  (θ_run Cert.KernelIdeal.defs _ _).mono (fun _ h => ⟨fun c => (h.1 c).2, h.2⟩) (Cert.KernelIdeal.Moe.run_values (F := Ideal) m ρ)

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Counting.lean ====
/-
Counting tokens. How many earlier tokens have the same expert, and the sums of zeros and ones over the extended reals that
count them.
-/
module

public import Idealize.ShloMosaic.Lib.Pointwise
public import Idealize.ShloMosaic.Lib.WordCmp
public import Mathlib.Data.Nat.Count
public import proofs.«01_k».proof.Proof.Gen.KernelIdeal

@[expose] public section

set_option maxRecDepth 16384

noncomputable section

namespace Cert.KernelIdeal.Moe

open Cert.KernelIdeal Cert.KernelIdeal.Gen

open Idealize.ShloMosaic
open scoped BigOperators

/-- The expert of token `x` as a word, zero past the last token. -/
def wordAt (v : IVec S1024x1 32) (x : ℕ) : BitVec 32 := if h : x < 1024 then v (ix2 ⟨x, h⟩ 0) else 0#32

theorem wordAt_val (v : IVec S1024x1 32) (i : Fin 1024) : wordAt v i.val = v (ix2 i 0) := dif_pos i.isLt

/-- How many tokens before token `i` have its expert. -/
def earlier (v : IVec S1024x1 32) (i : Fin 1024) : ℕ := Nat.count (fun x => wordAt v x = v (ix2 i 0)) i.val

theorem earlier_lt (v : IVec S1024x1 32) (i : Fin 1024) : earlier v i < 1024 := Nat.lt_of_le_of_lt (Nat.count_le _) i.isLt

/-- A token's place within its expert tells it from the other tokens of that expert. -/
theorem earlier_inj (v : IVec S1024x1 32) {t i : Fin 1024} (hw : v (ix2 t 0) = v (ix2 i 0)) (he : earlier v t = earlier v i) : t = i := by
  unfold earlier at he
  rw [hw] at he
  exact Fin.ext (Nat.count_injective ((wordAt_val v t).trans hw) (wordAt_val v i) he)

/-! ## Bits as numbers -/

/-- A bit widened and converted is the number one or zero. -/
theorem real_bit (b : BitVec 1) : (FloatOps.sitofp (F := Ideal) .f32 (BitVec.setWidth 32 b) : EReal) = if b = 1#1 then 1 else 0 := by
  have h : b = 1#1 ∨ b = 0#1 := by revert b; decide
  rcases h with rfl | rfl
  · show (((BitVec.setWidth 32 1#1).toInt : ℝ) : EReal) = _
    rw [if_pos rfl, show (BitVec.setWidth 32 1#1).toInt = 1 from by decide]; norm_num
  · show (((BitVec.setWidth 32 0#1).toInt : ℝ) : EReal) = _
    rw [if_neg (by decide), show (BitVec.setWidth 32 0#1).toInt = 0 from by decide]; norm_num

theorem eq_bit {w : ℕ} (a b : BitVec w) : IntOp.cmpi .eq a b = 1#1 ↔ a = b := by
  rw [WordCmp.cmpi_eq_eq, WordCmp.ofBool_decide_eq_one_iff]

/-- The number of an equality is one where it holds and zero where it does not. -/
theorem real_eq (a b : BitVec 32) : (FloatOps.sitofp (F := Ideal) .f32 (BitVec.setWidth 32 (IntOp.cmpi .eq a b)) : EReal) = if a = b then 1 else 0 := by
  rw [real_bit]; simp only [eq_bit]

/-- A sum of zeros and ones counts. -/
theorem sum_count {n : ℕ} (p : ℕ → Prop) [DecidablePred p] : (∑ t : Fin n, if p t.val then (1 : EReal) else 0) = ((Nat.count p n : ℕ) : EReal) := by
  rw [Finset.sum_range (f := fun t => if p t then (1 : EReal) else 0) |>.symm, Finset.sum_boole, Nat.count_eq_card_filter_range]

/-- Row `r` of the triangle of ones against the column of the tokens whose word is `k`: how many of them are among the first `r + 1`. -/
theorem sum_upto {n : ℕ} (r : ℕ) (hr : r < n) (hn : n ≤ 1024) (p : ℕ → Prop) [DecidablePred p] (f : Fin n → BitVec 32) (k : BitVec 32)
    (hf : ∀ t : Fin n, f t = k ↔ p t.val) :
    (∑ t : Fin n, (FloatOps.sitofp (F := Ideal) .f32 (BitVec.setWidth 32 (IntOp.cmpi .sge (BitVec.ofNat 32 r) (BitVec.ofNat 32 t.val))) : EReal)
        * FloatOps.sitofp (F := Ideal) .f32 (BitVec.setWidth 32 (IntOp.cmpi .eq (f t) k))) = ((Nat.count p (r + 1) : ℕ) : EReal) := by
  have h : ∀ t : Fin n, (FloatOps.sitofp (F := Ideal) .f32 (BitVec.setWidth 32 (IntOp.cmpi .sge (BitVec.ofNat 32 r) (BitVec.ofNat 32 t.val))) : EReal)
        * FloatOps.sitofp (F := Ideal) .f32 (BitVec.setWidth 32 (IntOp.cmpi .eq (f t) k)) = if t.val < r + 1 ∧ p t.val then 1 else 0 := fun t => by
    have ht := t.isLt
    rw [real_bit, real_eq]
    simp only [WordCmp.cmpi_sge_ofNat_eq_one_iff (w := 32) (a := r) (b := t.val) (by omega) (by omega), hf t, Nat.lt_succ_iff]
    by_cases h1 : t.val ≤ r <;> by_cases h2 : p t.val <;> simp [h1, h2]
  rw [Finset.sum_congr rfl fun t _ => h t, sum_count (fun x => x < r + 1 ∧ p x), Nat.count_eq_card_filter_range, Nat.count_eq_card_filter_range]
  refine congrArg (fun s : Finset ℕ => ((s.card : ℕ) : EReal)) ?_
  ext x
  simp only [Finset.mem_filter, Finset.mem_range]
  exact ⟨fun h => h.2, fun h => ⟨by omega, h⟩⟩

/-- The integer of a count is the count. -/
theorem count_word (n : ℕ) (hn : n ≤ 1024) : (FloatOps.fptosi (F := Ideal) (φ := .f32) 32 ((n : ℕ) : EReal) : BitVec 32) = BitVec.ofNat 32 n := by
  show Ideal.fptosi 32 ((n : ℕ) : EReal) = _
  rw [show ((n : ℕ) : EReal) = (((n : ℕ) : ℝ) : EReal) from rfl]
  unfold Ideal.fptosi
  rw [Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by norm_num; omega
  rw [this]
  exact BitVec.ofInt_natCast _ _

end Cert.KernelIdeal.Moe

end
-- ==== Proof.Slots.lean ====
/-
The slots. Token `i` of expert `e` with `n` earlier tokens of its expert takes slot `12 e + n` where `n < 12`, and none otherwise.
The kernel counts with two products of a triangle of ones, one for each half of the tokens.
-/
module

public import proofs.«01_k».proof.Proof.Counting
public import proofs.«01_k».proof.Proof.Gen.KernelIdeal.Skeleton

@[expose] public section

set_option maxRecDepth 16384

noncomputable section

namespace Cert.KernelIdeal.Moe

open Cert.KernelIdeal Cert.KernelIdeal.Gen

open Idealize.ShloMosaic
open scoped BigOperators

/-- The slot of token `i` as a word: the word of minus one where the token is dropped. -/
def slotOf (v : IVec S1024x1 32) (i : Fin 1024) : BitVec 32 :=
  if earlier v i < 12 then BitVec.ofNat 32 (12 * (v (ix2 i 0)).toNat + earlier v i) else 4294967295#32

/-- How many of the first `i + 1` tokens have expert `x`. -/
def upTo (v : IVec S1024x1 32) (i : ℕ) (x : ℕ) : ℕ := Nat.count (fun t => wordAt v t = BitVec.ofNat 32 x) (i + 1)

theorem upTo_self (v : IVec S1024x1 32) (i : Fin 1024) (x : ℕ) (h : v (ix2 i 0) = BitVec.ofNat 32 x) : upTo v i.val x = earlier v i + 1 := by
  unfold upTo earlier
  rw [Nat.count_succ, if_pos ((wordAt_val v i).trans h), h]

/-- The kernel's slots. -/
theorem slots_apply (v : IVec S1024x1 32) (hv : ∀ i : Fin 1024, (v (ix2 i 0)).toNat < 64) (i : Fin 1024) :
    k0_pay1 (F := Ideal) v (ix2 i 0) = slotOf v i := by
  have key : ∀ x : Fin 64, (if h : i.val < 512 then
                ∑ t : Fin 512,
                  (FloatOps.sitofp (F := Ideal) FTy.f32
                      (BitVec.setWidth 32 (IntOp.cmpi CmpIPredicate.sge (BitVec.ofNat 32 i.val) (BitVec.ofNat 32 t.val))) : EReal) *
                    FloatOps.sitofp (F := Ideal) FTy.f32
                      (BitVec.setWidth 32 (IntOp.cmpi CmpIPredicate.eq (v (ix2 ⟨t.val, by omega⟩ 0)) (BitVec.ofNat 32 x.val)))
              else
                (∑ t : Fin 512,
                    (FloatOps.sitofp (F := Ideal) FTy.f32
                        (BitVec.setWidth 32
                          (IntOp.cmpi CmpIPredicate.sge (BitVec.ofNat 32 (i.val - 512)) (BitVec.ofNat 32 t.val))) : EReal) *
                      FloatOps.sitofp (F := Ideal) FTy.f32
                        (BitVec.setWidth 32
                          (IntOp.cmpi CmpIPredicate.eq (v (ix2 ⟨512 + t.val, by omega⟩ 0)) (BitVec.ofNat 32 x.val)))) +
                  ∑ t : Fin 512,
                    (FloatOps.sitofp (F := Ideal) FTy.f32
                        (BitVec.setWidth 32 (IntOp.cmpi CmpIPredicate.sge (511#32) (BitVec.ofNat 32 t.val))) : EReal) *
                      FloatOps.sitofp (F := Ideal) FTy.f32
                        (BitVec.setWidth 32 (IntOp.cmpi CmpIPredicate.eq (v (ix2 ⟨t.val, by omega⟩ 0)) (BitVec.ofNat 32 x.val))))
      = ((upTo v i.val x.val : ℕ) : EReal) := fun x => by
    have lo : ∀ t : Fin 512, v (ix2 ⟨t.val, by omega⟩ 0) = BitVec.ofNat 32 x.val ↔ wordAt v t.val = BitVec.ofNat 32 x.val := fun t => by
      rw [← wordAt_val v ⟨t.val, by omega⟩]
    have hi : ∀ t : Fin 512, v (ix2 ⟨512 + t.val, by omega⟩ 0) = BitVec.ofNat 32 x.val ↔ wordAt v (512 + t.val) = BitVec.ofNat 32 x.val := fun t => by
      rw [← wordAt_val v ⟨512 + t.val, by omega⟩]
    split
    · next h => exact sum_upto i.val h (by omega) (fun t => wordAt v t = BitVec.ofNat 32 x.val) _ _ lo
    · next h =>
      rw [sum_upto (i.val - 512) (by omega) (by omega) (fun t => wordAt v (512 + t) = BitVec.ofNat 32 x.val) _ _ hi,
        sum_upto 511 (by omega) (by omega) (fun t => wordAt v t = BitVec.ofNat 32 x.val) _ _ lo, ← Nat.cast_add]
      unfold upTo
      rw [show i.val + 1 = 512 + (i.val - 512 + 1) by omega, Nat.count_add (fun t => wordAt v t = BitVec.ofNat 32 x.val) 512 (i.val - 512 + 1), Nat.add_comm]
  have pick : (∑ x : Fin 64, ((upTo v i.val x.val : ℕ) : EReal)
      * FloatOps.sitofp (F := Ideal) FTy.f32 (BitVec.setWidth 32 (IntOp.cmpi CmpIPredicate.eq (v (ix2 i 0)) (BitVec.ofNat 32 x.val))))
      = ((earlier v i + 1 : ℕ) : EReal) := by
    have hx : v (ix2 i 0) = BitVec.ofNat 32 (v (ix2 i 0)).toNat := (by rw [BitVec.ofNat_toNat, BitVec.setWidth_eq])
    rw [Finset.sum_eq_single (⟨(v (ix2 i 0)).toNat, hv i⟩ : Fin 64)]
    · rw [real_eq, if_pos hx, mul_one, upTo_self v i _ hx]
    · intro b _ hb
      rw [real_eq, if_neg, mul_zero]
      intro he
      refine hb (Fin.ext ?_)
      have := congrArg BitVec.toNat he
      rw [WordCmp.toNat_ofNat_of_lt (by have := b.isLt; omega)] at this
      exact this.symm
    · exact fun h => absurd (Finset.mem_univ _) h
  have hE := earlier_lt v i
  have hvi := hv i
  pointwise [k0_pay1]
  simp only [key, pick, count_word (earlier v i + 1) (by omega)]
  unfold slotOf
  by_cases h : earlier v i < 12
  · rw [if_pos h]
    have hb : IntOp.cmpi .sle (BitVec.ofNat 32 (earlier v i + 1)) 12#32 = 1#1 :=
      (WordCmp.cmpi_sle_ofNat_eq_one_iff (w := 32) (a := earlier v i + 1) (b := 12) (by omega) (by omega)).2 (by omega)
    rw [hb]
    show (v (ix2 i 0)) * 12#32 + BitVec.ofNat 32 (earlier v i + 1) - 1#32 = _
    apply BitVec.eq_of_toNat_eq
    simp only [BitVec.toNat_sub, BitVec.toNat_add, BitVec.toNat_mul, BitVec.toNat_ofNat]
    omega
  · rw [if_neg h]
    have hb : IntOp.cmpi .sle (BitVec.ofNat 32 (earlier v i + 1)) 12#32 = 0#1 :=
      (WordCmp.cmpi_sle_ofNat_eq_zero_iff (w := 32) (a := earlier v i + 1) (b := 12) (by omega) (by omega)).2 (by omega)
    rw [hb]
    rfl

end Cert.KernelIdeal.Moe

end
-- ==== Proof.Blocks.lean ====
/-
What one device computes: its block of forty-eight rows, and the result from all the blocks, read at an index.
-/
module

public import proofs.«01_k».proof.Proof.Slots
public import proofs.«01_k».proof.Proof.Values

@[expose] public section

set_option maxRecDepth 16384

noncomputable section

namespace Cert.KernelIdeal.Moe

open Cert.KernelIdeal Cert.KernelIdeal.Gen

open Idealize.ShloMosaic
open scoped BigOperators
open Idealize.ShloMosaic.TcCoe

/-- A device's number as a word. -/
theorem devw_eq (c : Dev nD) : devw c = BitVec.ofNat 32 c.val := by revert c; decide

/-- The block from the numbers of its rows' slots: row `s` goes through the weights of expert `s / 12` of the four. -/
theorem pay3_apply (g : IVec S1024x48 32) (x : Vec Ideal S1024x256 .bf16) (w0 w1 w2 w3 : Vec Ideal S1x256x512 .bf16)
    (W : Fin 4 → Fin 256 → Fin 512 → EReal) (h0 : ∀ d h, w0 (ix3 0 d h) = W 0 d h) (h1 : ∀ d h, w1 (ix3 0 d h) = W 1 d h)
    (h2 : ∀ d h, w2 (ix3 0 d h) = W 2 d h) (h3 : ∀ d h, w3 (ix3 0 d h) = W 3 d h) (s : Fin 48) (h : Fin 512) :
    k0_pay3 (F := Ideal) g x w0 w1 w2 w3 (ix2 s h)
      = ∑ d : Fin 256, (∑ t : Fin 1024, (FloatOps.sitofp (F := Ideal) .f32 (g (ix2 t s)) : EReal) * x (ix2 t d)) * W ⟨s.val / 12, by omega⟩ d h := by
  have hs := s.isLt
  pointwise [k0_pay3]
  simp only [h0, h1, h2, h3]
  split
  · next h => rw [show (⟨s.val / 12, by omega⟩ : Fin 4) = 0 from Fin.ext (by show s.val / 12 = 0; omega)]
  · split
    · next h =>
      rw [show (⟨s.val / 12, by omega⟩ : Fin 4) = 1 from Fin.ext (by show s.val / 12 = 1; omega)]
      simp only [show 12 + (s.val - 12) = s.val by omega]
    · split
      · next h =>
        rw [show (⟨s.val / 12, by omega⟩ : Fin 4) = 2 from Fin.ext (by show s.val / 12 = 2; omega)]
        simp only [show 24 + (s.val - 12 - 12) = s.val by omega]
      · next h =>
        rw [show (⟨s.val / 12, by omega⟩ : Fin 4) = 3 from Fin.ext (by show s.val / 12 = 3; omega)]
        simp only [show 36 + (s.val - 12 - 12 - 12) = s.val by omega]

/-- One expert's weights read out of the four. -/
theorem read_expert {off : Fin 3 → ℕ} (k : Fin 4) (ho : off = ![k.val, 0, 0]) (inb) (w : (cc0_stg3_0 : Ref sig .tc).ty.Contents (Elt Ideal)) (d : Fin 256) (h : Fin 512) :
    (Memref.whole cc0_stg3_0 : Memref sig .tc .vmem S4x256x512 .bf16).view.readAt (Elt Ideal) (Rect.unit (s := S4x256x512) off S1x256x512.size inb).toLoadRect w (ix3 0 d h)
      = w (ix3 k d h) := by
  subst ho
  refine congrArg w (funext fun a => Fin.ext ?_)
  fin_cases a
  · show k.val + 0 = k.val; omega
  · show 0 + 1 * d.val = d.val; omega
  · show 0 + 1 * h.val = h.val; omega

variable (m : (ℓ : Loc nD τ sig) → Buf (Elt Ideal) ℓ) (ρ : Dev nD → PrngReg)

/-- The block of device `c`. -/
theorem block_apply (c : Dev nD) (X : Vec Ideal S1024x256 .bf16) (V : IVec S1024x1 32) (W : Vec Ideal S4x256x512 .bf16)
    (hX : m ((c : Thread nD τ).loc main_arg0) = X) (hV : m ((c : Thread nD τ).loc main_arg2) = V) (hW : m ((c : Thread nD τ).loc main_arg3) = W)
    (hv : ∀ i : Fin 1024, (V (ix2 i 0)).toNat < 64) (s : Fin 48) (h : Fin 512) :
    block m ρ c (ix2 s h)
      = ∑ d : Fin 256, (∑ t : Fin 1024, (if slotOf V t = BitVec.ofNat 32 (48 * c.val + s.val) then (1 : EReal) else 0) * X (ix2 t d))
          * W (ix3 ⟨s.val / 12, by omega⟩ d h) := by
  have hg : ∀ t : Fin 1024, (FloatOps.sitofp (F := Ideal) .f32 (k0_pay2 (F := Ideal) (devw c) V (ix2 t s)) : EReal)
      = if slotOf V t = BitVec.ofNat 32 (48 * c.val + s.val) then (1 : EReal) else 0 := fun t => by
    have hw : IntOp.addi (BitVec.ofNat 32 s.val) (Scalar.muli (devw c) 48#32) = BitVec.ofNat 32 (48 * c.val + s.val) := by
      rw [devw_eq]
      show BitVec.ofNat 32 s.val + BitVec.ofNat 32 c.val * BitVec.ofNat 32 48 = _
      rw [← BitVec.ofNat_mul, ← BitVec.ofNat_add]; congr 1; omega
    have hp : k0_pay2 (F := Ideal) (devw c) V (ix2 t s)
        = BitVec.setWidth 32 (IntOp.cmpi .eq (slotOf V t) (BitVec.ofNat 32 (48 * c.val + s.val))) := by
      rw [← hw, ← slots_apply V hv]
      pointwise [k0_pay2]
    rw [hp, real_eq]
  unfold block
  rw [xstg_eq, istg_eq, wstg_eq, hX, hV, hW]
  refine (pay3_apply _ X _ _ _ _ (fun k d h => W (ix3 k d h)) (read_expert 0 rfl _ W) (read_expert 1 rfl _ W) (read_expert 2 rfl _ W)
    (read_expert 3 rfl _ W) s h).trans ?_
  simp only [hg]

/-- The result of device `c` from the blocks: row `i` takes the row of the buffer that holds its slot. -/
theorem out_apply (c : Dev nD) (V : IVec S1024x1 32) (hV : m ((c : Thread nD τ).loc main_arg2) = V)
    (hv : ∀ i : Fin 1024, (V (ix2 i 0)).toNat < 64) (i : Fin 1024) (h : Fin 512) :
    (outAt m ρ c (ix2 i h) : EReal)
      = ∑ r : Fin 768, (if slotOf V i = BitVec.ofNat 32 ((r.val + 48 * c.val) % 768) then (1 : EReal) else 0) * blocks m ρ c (ix2 r h) := by
  have hc : c.val < 16 := c.isLt
  have hp : ∀ r : Fin 768, k0_pay4 (F := Ideal) (devw c) (k0_pay1 (F := Ideal) V) (ix2 i r)
      = if slotOf V i = BitVec.ofNat 32 ((r.val + 48 * c.val) % 768) then (1 : EReal) else 0 := fun r => by
    have hr := r.isLt
    have hw : IntOp.addi (BitVec.ofNat 32 r.val) (Scalar.muli (devw c) 48#32) = BitVec.ofNat 32 (r.val + 48 * c.val) := by
      rw [devw_eq]
      show BitVec.ofNat 32 r.val + BitVec.ofNat 32 c.val * BitVec.ofNat 32 48 = _
      rw [← BitVec.ofNat_mul, ← BitVec.ofNat_add]; congr 1; omega
    have hm : IntOp.subi (BitVec.ofNat 32 (r.val + 48 * c.val)) (Scalar.select (IntOp.cmpi .sge (BitVec.ofNat 32 (r.val + 48 * c.val)) 768#32) 768#32 0#32)
        = BitVec.ofNat 32 ((r.val + 48 * c.val) % 768) := by
      rw [WordCmp.cmpi_sge_ofNat (w := 32) (a := r.val + 48 * c.val) (b := 768) (by omega) (by omega)]
      by_cases hl : 768 ≤ r.val + 48 * c.val
      · rw [decide_eq_true hl]
        show BitVec.ofNat 32 (r.val + 48 * c.val) - BitVec.ofNat 32 768 = _
        rw [show (r.val + 48 * c.val) % 768 = r.val + 48 * c.val - 768 by omega]
        exact (BitVec.ofNat_sub_ofNat_of_le _ _ (by omega) hl)
      · rw [decide_eq_false hl]
        show BitVec.ofNat 32 (r.val + 48 * c.val) - BitVec.ofNat 32 0 = _
        rw [Nat.mod_eq_of_lt (by omega : r.val + 48 * c.val < 768)]
        exact BitVec.sub_zero _
    rw [← slots_apply V hv, ← hm, ← hw, ← real_eq]
    pointwise [k0_pay4]
  unfold outAt
  rw [istg_eq, hV]
  refine Eq.trans (b := ∑ r : Fin 768, k0_pay4 (F := Ideal) (devw c) (k0_pay1 (F := Ideal) V) (ix2 i r) * blocks m ρ c (ix2 r h)) ?_ ?_
  · pointwise [k0_pay5]
  · simp only [hp]

end Cert.KernelIdeal.Moe

end
-- ==== Proof.Product.lean ====
/-
The kernel's result: a token with a place among its expert's twelve gets its row times its expert's weights, another token gets zero.
-/
module

public import proofs.«01_k».proof.Proof.Blocks

@[expose] public section

set_option maxRecDepth 16384

noncomputable section

namespace Cert.KernelIdeal.Moe

open Cert.KernelIdeal Cert.KernelIdeal.Gen

open Idealize.ShloMosaic
open scoped BigOperators
open Idealize.ShloMosaic.TcCoe

/-- The slot of a token that has one, as a word. -/
theorem slotOf_kept (v : IVec S1024x1 32) (i : Fin 1024) (hk : earlier v i < 12) :
    slotOf v i = BitVec.ofNat 32 (12 * (v (ix2 i 0)).toNat + earlier v i) := if_pos hk

/-- A token without a slot has the word of no slot. -/
theorem slotOf_dropped (v : IVec S1024x1 32) (i : Fin 1024) (hk : ¬ earlier v i < 12) {n : ℕ} (hn : n < 768) : slotOf v i ≠ BitVec.ofNat 32 n := by
  intro h
  have h' := congrArg BitVec.toNat ((if_neg hk).symm.trans h)
  rw [WordCmp.toNat_ofNat_of_lt (by omega)] at h'
  rw [WordCmp.toNat_ofNat_of_lt (by omega)] at h'
  exact absurd (show 4294967295 = n from h') (by omega)

/-- A slot below 768 as a word tells its number. -/
theorem slotOf_val (v : IVec S1024x1 32) (hv : ∀ i : Fin 1024, (v (ix2 i 0)).toNat < 64) (i : Fin 1024) (hk : earlier v i < 12) {n : ℕ} (hn : n < 768) :
    slotOf v i = BitVec.ofNat 32 n ↔ n = 12 * (v (ix2 i 0)).toNat + earlier v i := by
  have := hv i
  rw [slotOf_kept v i hk]
  refine ⟨fun h => ?_, fun h => by rw [h]⟩
  have h' := congrArg BitVec.toNat h
  rw [WordCmp.toNat_ofNat_of_lt (by omega), WordCmp.toNat_ofNat_of_lt (by omega)] at h'
  exact h'.symm

/-- Two tokens of one slot are one token. -/
theorem slotOf_inj (v : IVec S1024x1 32) (hv : ∀ i : Fin 1024, (v (ix2 i 0)).toNat < 64) {t i : Fin 1024} (hk : earlier v i < 12)
    (h : slotOf v t = BitVec.ofNat 32 (12 * (v (ix2 i 0)).toNat + earlier v i)) : t = i := by
  have := hv i
  by_cases ht : earlier v t < 12
  · have h' := (slotOf_val v hv t ht (by omega)).1 h
    have := hv t
    exact earlier_inj v (BitVec.eq_of_toNat_eq (by omega)) (by omega)
  · exact absurd h (slotOf_dropped v t ht (by omega))

/-- The sum over all tokens with the slot of token `i` is its one term. -/
theorem sum_slot (v : IVec S1024x1 32) (hv : ∀ i : Fin 1024, (v (ix2 i 0)).toNat < 64) (i : Fin 1024) (hk : earlier v i < 12) (f : Fin 1024 → EReal) :
    (∑ t : Fin 1024, (if slotOf v t = BitVec.ofNat 32 (12 * (v (ix2 i 0)).toNat + earlier v i) then (1 : EReal) else 0) * f t) = f i := by
  rw [Finset.sum_eq_single i, if_pos (slotOf_kept v i hk), one_mul]
  · intro t _ ht
    rw [if_neg fun h => ht (slotOf_inj v hv hk h), zero_mul]
  · intro h; exact absurd (Finset.mem_univ i) h

variable (m : (ℓ : Loc nD τ sig) → Buf (Elt Ideal) ℓ) (ρ : Dev nD → PrngReg)

/-- The kernel's result on every device, from the tokens' rows `X`, their experts `V` and all experts' weights `W`. -/
theorem outAt_apply (c : Dev nD) (X : Vec Ideal S1024x256 .bf16) (V : IVec S1024x1 32) (W : Fin 64 → Fin 256 → Fin 512 → EReal)
    (hX : ∀ c : Dev nD, m ((c : Thread nD τ).loc main_arg0) = X) (hV : ∀ c : Dev nD, m ((c : Thread nD τ).loc main_arg2) = V)
    (hW : ∀ (c : Dev nD) (k : Fin 4) (d : Fin 256) (h : Fin 512) (e : Fin 64), e.val = 4 * c.val + k.val →
      (m ((c : Thread nD τ).loc main_arg3) : Vec Ideal S4x256x512 .bf16) (ix3 k d h) = W e d h)
    (hv : ∀ i : Fin 1024, (V (ix2 i 0)).toNat < 64) (i : Fin 1024) (h : Fin 512) :
    (outAt m ρ c (ix2 i h) : EReal)
      = if earlier V i < 12 then ∑ d : Fin 256, X (ix2 i d) * W ⟨(V (ix2 i 0)).toNat, hv i⟩ d h else (0 : EReal) := by
  have hc : c.val < 16 := c.isLt
  have he := hv i
  refine Eq.trans (α := EReal) (out_apply m ρ c V (hV c) hv i h) ?_
  by_cases hk : earlier V i < 12
  · rw [if_pos hk]
    obtain ⟨S, hS⟩ : ∃ S, S = 12 * (V (ix2 i 0)).toNat + earlier V i := ⟨_, rfl⟩
    obtain ⟨r, hr⟩ : ∃ r : Fin 768, r.val = (S + (768 - 48 * c.val)) % 768 := ⟨⟨_, Nat.mod_lt _ (by decide)⟩, rfl⟩
    have hrS : S = (r.val + 48 * c.val) % 768 := by omega
    rw [Finset.sum_eq_single r]
    · rw [if_pos ((slotOf_val V hv i hk (by omega)).2 (by omega)), one_mul]
      have hb : blocks m ρ c (ix2 r h) = block m ρ (shift c (r.val / 48)) (ix2 (⟨r.val % 48, Nat.mod_lt _ (by decide)⟩ : Fin 48) h) :=
        congrArg (block m ρ (shift c (r.val / 48))) (funext fun a => by fin_cases a <;> rfl)
      have hn : 48 * (shift c (r.val / 48)).val + r.val % 48 = 12 * (V (ix2 i 0)).toNat + earlier V i := by
        rw [shift_val]; omega
      rw [hb, block_apply m ρ _ X V _ (hX _) (hV _) rfl hv]
      refine Finset.sum_congr rfl fun d _ => ?_
      show (∑ t : Fin 1024, (if slotOf V t = BitVec.ofNat 32 (48 * (shift c (r.val / 48)).val + r.val % 48) then (1 : EReal) else 0) * X (ix2 t d)) * _ = _
      rw [hn, sum_slot V hv i hk fun t => X (ix2 t d)]
      refine congrArg (X (ix2 i d) * ·) (hW _ _ d h _ ?_)
      show (V (ix2 i 0)).toNat = 4 * (shift c (r.val / 48)).val + r.val % 48 / 12
      omega
    · intro q _ hq
      rw [if_neg, zero_mul]
      intro hs
      have := (slotOf_val V hv i hk (Nat.mod_lt _ (by decide))).1 hs
      exact hq (Fin.ext (by have := q.isLt; omega))
    · intro hn; exact absurd (Finset.mem_univ r) hn
  · rw [if_neg hk]
    refine Finset.sum_eq_zero fun r _ => ?_
    rw [if_neg (slotOf_dropped V i hk (Nat.mod_lt _ (by decide))), zero_mul]

end Cert.KernelIdeal.Moe

end
-- ==== Proof.Reference.lean ====
/-
The reference's result, read at an index.
-/
module

public import proofs.«01_k».proof.Proof.Counting
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.ReferenceIdeal.Moe

open Cert.ReferenceIdeal Cert.ReferenceIdeal.Gen

open Idealize.ShloMosaic
open Cert.KernelIdeal.Moe (earlier earlier_lt wordAt_val eq_bit)
open scoped BigOperators

/-- The reference's result as a function of the tokens' rows, their experts and all experts' weights. -/
def refOut (a0 : FVec Ideal S1024x256 .bf16) (a2 : IVec S1024x1 32) (a3 : FVec Ideal S64x256x512 .bf16) : FVec Ideal S1024x512 .bf16 :=
  truncf .bf16 (select (broadcastInDim S1024x512 ![0, 1] bcast_S1024x1_S1024x512_0_1 (broadcastInDim S1024x1 ![0] bcast_S1024_S1024x1_0 (cmpi .slt (Host.reduce IntOp.addi (extui 32 (andi (cmpi .eq (broadcastInDim S1024x1024 ![0, 1] bcast_S1x1024_S1024x1024_0_1 (broadcastInDim S1x1024 ![1] bcast_S1024_S1x1024_1 (shapeCast _ a2 shapeCasts_S1024x1_S1024))) (broadcastInDim S1024x1024 ![0, 1] bcast_S1024x1_S1024x1024_0_1 (broadcastInDim S1024x1 ![0] bcast_S1024_S1024x1_0 (shapeCast _ a2 shapeCasts_S1024x1_S1024)))) (cmpi .slt (broadcastInDim S1024x1024 ![0, 1] bcast_S1x1024_S1024x1024_0_1 (broadcastInDim S1x1024 ![1] bcast_S1024_S1x1024_1 (iotaInDim S1024 32 0))) (broadcastInDim S1024x1024 ![0, 1] bcast_S1024x1_S1024x1024_0_1 (broadcastInDim S1024x1 ![0] bcast_S1024_S1024x1_0 (iotaInDim S1024 32 0))))) natLt_1_32) (constantI S_ 32 0#32) reducesTo_S1024x1024_S1024_d1 h_S_) (broadcastInDim S1024 ![] bcast_S_S1024 (constantI S_ 32 12#32))))) (Host.dotGeneral dot_S1024x256_S1024x256x512_S1024x512_1_1_n_2_0_0 none (extf .f32 a0 bitsLt_bf16_f32) (extf .f32 (Host.gather gather_S64x256x512_S1024x1_S1024x256x512_12_0_n_n_0_1_1256512 a3 (broadcastInDim S1024x1 ![0] bcast_S1024_S1024x1_0 (select (cmpi .slt (shapeCast _ a2 shapeCasts_S1024x1_S1024) (broadcastInDim S1024 ![] bcast_S_S1024 (constantI S_ 32 0#32))) (addi (shapeCast _ a2 shapeCasts_S1024x1_S1024) (broadcastInDim S1024 ![] bcast_S_S1024 (constantI S_ 32 64#32))) (shapeCast _ a2 shapeCasts_S1024x1_S1024)))) bitsLt_bf16_f32)) (broadcastInDim S1024x512 ![] bcast_S_S1024x512 (id (constant S_ .f32 0x00000000#32)))) bitsLt_bf16_f32

/-- The weights picked for every token: token `i` gets those of the expert its index names. -/
theorem picked_apply (x : FVec Ideal S64x256x512 .bf16) (idx : IVec S1024x1 32) (i : Fin 1024) (d : Fin 256) (h : Fin 512) (e : Fin 64)
    (he : (idx (ix2 i 0)).toInt.toNat = e.val) :
    Host.gather gather_S64x256x512_S1024x1_S1024x256x512_12_0_n_n_0_1_1256512 x idx (ix3 i d h) = x (ix3 e d h) := by
  have hs : ∀ k, GatherDims.siIdx gather_S64x256x512_S1024x1_S1024x256x512_12_0_n_n_0_1_1256512 (ix3 i d h) k = ix2 i 0 := fun k => by
    funext b
    fin_cases b
    · rfl
    · exact Subsingleton.elim (α := Fin 1) _ _
  refine congrArg x (funext fun a => Fin.ext ?_)
  fin_cases a
  · have := e.isLt
    show min (idx (GatherDims.siIdx gather_S64x256x512_S1024x1_S1024x256x512_12_0_n_n_0_1_1256512 (ix3 i d h) _)).toInt.toNat 63 + 0 + 0 = e.val
    rw [hs, he]
    omega
  · show 0 + 0 + d.val = d.val
    omega
  · show 0 + 0 + h.val = h.val
    omega

/-- A sum of words that are each one or zero counts the ones. -/
theorem fold_count {ι : Type} [DecidableEq ι] (s : Finset ι) (p : ι → Prop) [DecidablePred p] :
    Finset.fold IntOp.addi (0#32) (fun x => if p x then 1#32 else 0#32) s = BitVec.ofNat 32 (s.filter p).card := by
  induction s using Finset.induction_on with
  | empty => rfl
  | insert a s ha ih =>
    rw [Finset.fold_insert ha, ih, Finset.filter_insert]
    by_cases hp : p a
    · rw [if_pos hp, if_pos hp, Finset.card_insert_of_notMem (by simp [ha]), Nat.add_comm, BitVec.ofNat_add]; rfl
    · rw [if_neg hp, if_neg hp]; exact BitVec.zero_add _

/-- A bit that is one where `p` holds, as a word. -/
theorem wide_bit (b : BitVec 1) (p : Prop) [Decidable p] (h : b = 1#1 ↔ p) : BitVec.setWidth 32 b = if p then 1#32 else 0#32 := by
  by_cases hp : p
  · rw [if_pos hp, h.2 hp]; rfl
  · have h0 : b = 0#1 := by
      have hn : b ≠ 1#1 := fun hb => hp (h.1 hb)
      clear h; revert hn; revert b; decide
    rw [if_neg hp, h0]; rfl

/-- Two bits are both one exactly where their conjunction is. -/
theorem both_bits (a b : BitVec 1) : IntOp.andi a b = 1#1 ↔ a = 1#1 ∧ b = 1#1 := by revert a b; decide

/-- The tokens before token `i` that have its expert. -/
theorem card_earlier (v : IVec S1024x1 32) (i : Fin 1024) :
    (Finset.univ.filter fun t : Fin 1024 => v (ix2 t 0) = v (ix2 i 0) ∧ t.val < i.val).card = earlier v i := by
  unfold earlier
  rw [Nat.count_eq_card_filter_range]
  refine Finset.card_bij (fun t _ => t.val) (fun t ht => ?_) (fun t _ u _ h => Fin.ext h) fun n hn => ?_
  · have h := (Finset.mem_filter.1 ht).2
    exact Finset.mem_filter.2 ⟨Finset.mem_range.2 h.2, (wordAt_val v t).trans h.1⟩
  · have h := Finset.mem_filter.1 hn
    have hlt : n < i.val := Finset.mem_range.1 h.1
    have hi := i.isLt
    exact ⟨⟨n, by omega⟩, Finset.mem_filter.2 ⟨Finset.mem_univ _, (wordAt_val v ⟨n, by omega⟩).symm.trans h.2, hlt⟩, rfl⟩

/-- The index the reference picks weights with is the token's expert: it is not negative, so it is not wrapped. -/
theorem index_apply (v : IVec S1024x1 32) (hv : ∀ i : Fin 1024, (v (ix2 i 0)).toNat < 64) (i : Fin 1024) :
    broadcastInDim S1024x1 ![0] bcast_S1024_S1024x1_0
      (select (cmpi .slt (shapeCast S1024 v shapeCasts_S1024x1_S1024) (broadcastInDim S1024 ![] bcast_S_S1024 (constantI S_ 32 0#32)))
        (addi (shapeCast S1024 v shapeCasts_S1024x1_S1024) (broadcastInDim S1024 ![] bcast_S_S1024 (constantI S_ 32 64#32)))
        (shapeCast S1024 v shapeCasts_S1024x1_S1024)) (ix2 i 0) = v (ix2 i 0) := by
  have h0 : IntOp.cmpi .slt (v (ix2 i 0)) 0#32 ≠ 1#1 := by
    have := hv i
    rw [WordCmp.cmpi_slt_zero, Ne, WordCmp.ofBool_decide_eq_one_iff]
    omega
  pointwise
  exact if_neg h0

/-- The reference's result: a token with a place among its expert's twelve gets its row times its expert's weights, another token gets zero. -/
theorem refOut_apply (a0 : FVec Ideal S1024x256 .bf16) (a2 : IVec S1024x1 32) (a3 : FVec Ideal S64x256x512 .bf16) (hv : ∀ i : Fin 1024, (a2 (ix2 i 0)).toNat < 64)
    (i : Fin 1024) (h : Fin 512) :
    (refOut a0 a2 a3 (ix2 i h) : EReal)
      = if earlier a2 i < 12 then ∑ d : Fin 256, a0 (ix2 i d) * a3 (ix3 ⟨(a2 (ix2 i 0)).toNat, hv i⟩ d h) else (0 : EReal) := by
  have hn := earlier_lt a2 i
  have hcount : Finset.fold IntOp.addi (0#32) (fun x : Fin 1024 => BitVec.setWidth 32 (IntOp.andi (IntOp.cmpi .eq (a2 (ix2 x 0)) (a2 (ix2 i 0)))
      (IntOp.cmpi .slt (BitVec.ofNat 32 x.val) (BitVec.ofNat 32 i.val)))) Finset.univ = BitVec.ofNat 32 (earlier a2 i) := by
    rw [← card_earlier, ← fold_count]
    refine Finset.fold_congr fun x _ => wide_bit _ _ ?_
    have := x.isLt
    have := i.isLt
    rw [both_bits, eq_bit, WordCmp.cmpi_slt_ofNat_eq_one_iff (w := 32) (by omega) (by omega)]
  have hpick : ∀ idx : IVec S1024x1 32, idx (ix2 i 0) = a2 (ix2 i 0) → (idx (ix2 i 0)).toInt.toNat = (⟨(a2 (ix2 i 0)).toNat, hv i⟩ : Fin 64).val := fun idx he => by
    have := hv i
    rw [he, WordCmp.toInt_eq_toNat_of_lt_half (by omega)]; rfl
  pointwise [refOut]
  rw [hcount]
  refine (if_congr (WordCmp.cmpi_slt_ofNat_eq_one_iff (w := 32) (by omega) (by omega)) (Finset.sum_congr rfl fun d _ => congrArg _ (picked_apply a3 _ i d h _ (hpick _ (index_apply a2 hv i)))) ?_)
  exact Ideal.ofBits_zero .f32

end Cert.ReferenceIdeal.Moe

end
-- ==== Proof.Algebraic.lean ====
/-
The kernel and the reference end with the same values over the extended reals.
-/
module

public import proofs.«01_k».proof.Proof.Frames
public import proofs.«01_k».proof.Proof.Product
public import proofs.«01_k».proof.Proof.Reference
public import Idealize.ShloMosaic.Lib.ReduceAll

@[expose] public section

set_option maxRecDepth 100000

noncomputable section

namespace Cert.Proof

open Idealize.ShloMosaic Idealize.SL.Sem

/-- The precondition at one device: every token's expert is one of the sixty-four. -/
theorem routed_below (x0 : FVec Ideal ⟨2, ![1024, 256]⟩ .bf16) (x1 : FVec Ideal ⟨2, ![256, 64]⟩ .bf16) (v : IVec ⟨2, ![1024, 1]⟩ 32)
    (x3 : FVec Ideal ⟨3, ![4, 256, 512]⟩ .bf16) (h : haveI := preKernel; Cert.Pre_routed_KernelIdeal.fn (F := Ideal) x0 x1 v x3 = fun _ => 1#1) (i : Fin 1024) :
    (v (ix2 i 0)).toNat < 64 := by
  have hs : Subsingleton Cert.Pre_routed_KernelIdeal.S_.Idx := ⟨fun a b => funext fun k => k.elim0⟩
  have h1 := Host.reduce_andi_all _ _ _ _ ix0 (congrFun h ix0) (ix2 i 0)
  have h2 : IntOp.andi (IntOp.cmpi .sge (v (ix2 i 0)) 0#32) (IntOp.cmpi .slt (v (ix2 i 0)) (BitVec.ofNat 32 64)) = 1#1 := h1
  rwa [WordCmp.andi_sge_zero_slt_ofNat (by decide), WordCmp.ofBool_decide_eq_one_iff] at h2

/-- Expert `k` of the four of device `c` is expert `4 c + k` of all. -/
theorem expert_of_block (c : Fin 16) (w : FVec Ideal ⟨3, ![64, 256, 512]⟩ .bf16) (k : Fin 4) (d : Fin 256) (h : Fin 512) (e : Fin 64)
    (he : e.val = 4 * c.val + k.val) :
    Layout.block ⟨3, ![4, 256, 512]⟩ ⟨3, ![64, 256, 512]⟩ 0 16 c w (by decide) (ix3 k d h) = w (ix3 e d h) := by
  refine congrArg w (funext fun a => Fin.ext ?_)
  fin_cases a
  · show c.val * 4 + k.val = e.val
    omega
  · rfl
  · rfl

theorem algebraic :
    Cert.algebraic_KernelIdeal_ReferenceIdeal_pre_routed_KernelIdeal (hKernelIdeal := Cert.KernelIdeal.Gen.facts)
      (hReferenceIdeal := Cert.ReferenceIdeal.Gen.facts) (hPre_routed_KernelIdeal := preKernel) := fun m ρ m' ρ' hpre hargs => by
  have hv : ∀ i : Fin 1024, ((m' (((0 : Dev Cert.ReferenceIdeal.nD).tc : Thread Cert.ReferenceIdeal.nD Cert.ReferenceIdeal.τ).loc
      Cert.ReferenceIdeal.main_arg2) : IVec ⟨2, ![1024, 1]⟩ 32) (ix2 i 0)).toNat < 64 := fun i => by
    rw [← (hargs 0).2.2.1]
    exact routed_below _ _ _ _ (hpre 0) i
  refine ⟨Cert.ReferenceIdeal.Moe.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)),
    (θ_run Cert.KernelIdeal.defs _ _).mono (fun r h c => ⟨(h.1 c).1.trans ?_, (h.1 c).2⟩) (Cert.KernelIdeal.Moe.run_values (F := Ideal) m ρ),
    (θ_run Cert.ReferenceIdeal.defs _ _).mono (fun r h => h 0) (Cert.ReferenceIdeal.Value.run (F := Ideal) m' ρ')⟩
  refine funext fun (j : Shape.Idx ⟨2, ![1024, 512]⟩) => ?_
  have hj : j = ix2 (j 0 : Fin 1024) (j 1 : Fin 512) := funext fun a => by fin_cases a <;> rfl
  rw [hj]
  exact (Cert.KernelIdeal.Moe.outAt_apply m ρ c _ _
    (fun e d h => (m' (((0 : Dev Cert.ReferenceIdeal.nD).tc : Thread Cert.ReferenceIdeal.nD Cert.ReferenceIdeal.τ).loc Cert.ReferenceIdeal.main_arg3) : FVec Ideal ⟨3, ![64, 256, 512]⟩ .bf16) (ix3 e d h))
    (fun c => (hargs c).1) (fun c => (hargs c).2.2.1)
    (fun c k d h e he => (congrFun (hargs c).2.2.2 (ix3 k d h)).trans (expert_of_block c _ k d h e he)) hv (j 0) (j 1)).trans
    (Cert.ReferenceIdeal.Moe.refOut_apply _ _ _ hv (j 0) (j 1)).symm

end Cert.Proof

end
-- ==== Proof.lean ====
/-
The claim: the frames of the three programs, `preserves`, and the equality of the kernel with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, preKernel, preReference,
    frame_kernel, frame_ideal, fun m g _ => frame_ideal m g trivial, frame_reference, fun m g _ => frame_reference m g trivial,
    trivial, algebraic⟩

end Cert.Proof

end
